-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v310) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S512 : Shape := ⟨1, ![512]⟩
abbrev S4x4x512 : Shape := ⟨3, ![4, 4, 512]⟩
abbrev S64x2x512 : Shape := ⟨3, ![64, 2, 512]⟩
abbrev S3x512 : Shape := ⟨2, ![3, 512]⟩
abbrev S4x512 : Shape := ⟨2, ![4, 512]⟩
abbrev S77x512 : Shape := ⟨2, ![77, 512]⟩
abbrev S2x512 : Shape := ⟨2, ![2, 512]⟩
abbrev S2x512x1536 : Shape := ⟨3, ![2, 512, 1536]⟩
abbrev S2x1536 : Shape := ⟨2, ![2, 1536]⟩
abbrev S2x512x512 : Shape := ⟨3, ![2, 512, 512]⟩
abbrev S2x512x2048 : Shape := ⟨3, ![2, 512, 2048]⟩
abbrev S2x2048 : Shape := ⟨2, ![2, 2048]⟩
abbrev S2x2048x512 : Shape := ⟨3, ![2, 2048, 512]⟩
abbrev S512x512 : Shape := ⟨2, ![512, 512]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel
  bcast_S_S4x4x512 : S_.BroadcastsInDim S4x4x512 (![] : Fin 0 → Fin S4x4x512.rank)
  reducesTo_S4x4x512_S_d0_1_2 : S4x4x512.ReducesTo [0, 1, 2] S_
  bcast_S_S64x2x512 : S_.BroadcastsInDim S64x2x512 (![] : Fin 0 → Fin S64x2x512.rank)
  reducesTo_S64x2x512_S_d0_1_2 : S64x2x512.ReducesTo [0, 1, 2] S_
  bcast_S_S3x512 : S_.BroadcastsInDim S3x512 (![] : Fin 0 → Fin S3x512.rank)
  reducesTo_S3x512_S_d0_1 : S3x512.ReducesTo [0, 1] S_
  bcast_S_S4x512 : S_.BroadcastsInDim S4x512 (![] : Fin 0 → Fin S4x512.rank)
  reducesTo_S4x512_S_d0_1 : S4x512.ReducesTo [0, 1] S_
  bcast_S_S77x512 : S_.BroadcastsInDim S77x512 (![] : Fin 0 → Fin S77x512.rank)
  reducesTo_S77x512_S_d0_1 : S77x512.ReducesTo [0, 1] S_
  bcast_S_S2x512 : S_.BroadcastsInDim S2x512 (![] : Fin 0 → Fin S2x512.rank)
  reducesTo_S2x512_S_d0_1 : S2x512.ReducesTo [0, 1] S_
  bcast_S_S2x512x1536 : S_.BroadcastsInDim S2x512x1536 (![] : Fin 0 → Fin S2x512x1536.rank)
  reducesTo_S2x512x1536_S_d0_1_2 : S2x512x1536.ReducesTo [0, 1, 2] S_
  bcast_S_S2x1536 : S_.BroadcastsInDim S2x1536 (![] : Fin 0 → Fin S2x1536.rank)
  reducesTo_S2x1536_S_d0_1 : S2x1536.ReducesTo [0, 1] S_
  bcast_S_S2x512x512 : S_.BroadcastsInDim S2x512x512 (![] : Fin 0 → Fin S2x512x512.rank)
  reducesTo_S2x512x512_S_d0_1_2 : S2x512x512.ReducesTo [0, 1, 2] S_
  bcast_S_S2x512x2048 : S_.BroadcastsInDim S2x512x2048 (![] : Fin 0 → Fin S2x512x2048.rank)
  reducesTo_S2x512x2048_S_d0_1_2 : S2x512x2048.ReducesTo [0, 1, 2] S_
  bcast_S_S2x2048 : S_.BroadcastsInDim S2x2048 (![] : Fin 0 → Fin S2x2048.rank)
  reducesTo_S2x2048_S_d0_1 : S2x2048.ReducesTo [0, 1] S_
  bcast_S_S2x2048x512 : S_.BroadcastsInDim S2x2048x512 (![] : Fin 0 → Fin S2x2048x512.rank)
  reducesTo_S2x2048x512_S_d0_1_2 : S2x2048x512.ReducesTo [0, 1, 2] S_
  bcast_S_S512x512 : S_.BroadcastsInDim S512x512 (![] : Fin 0 → Fin S512x512.rank)
  reducesTo_S512x512_S_d0_1 : S512x512.ReducesTo [0, 1] S_

variable [Facts]

def fn_part6 {F : FTy → Type} [FloatOps F] (main_arg21 : FVec F S512x512 .f32) (main_v99 : IVec S_ 1) (main_v100 : FVec F S512 .f32) (main_v101 : FVec F S512 .f32) : IVec S_ 1 :=
  let main_v102 : IVec S512 1 := cmpf .olt main_v100 main_v101
  let main_c_40 : IVec S_ 1 := constantI S_ 1 1#1
  let main_v103 : IVec S_ 1 := (fun x v => Host.reduce IntOp.andi x v reducesTo_S512_S_d0 h_S_) main_v102 main_c_40
  let main_v104 : IVec S_ 1 := andi main_v99 main_v103
  let main_v105 : FVec F S512x512 .f32 := Host.absf main_arg21
  let main_cst_41 : FVec F S_ .f32 := constant S_ .f32 0x7F800000#32
  let main_v106 : FVec F S512x512 .f32 := broadcastInDim S512x512 ![] bcast_S_S512x512 main_cst_41
  let main_v107 : IVec S512x512 1 := cmpf .olt main_v105 main_v106
  let main_c_42 : IVec S_ 1 := constantI S_ 1 1#1
  let main_v108 : IVec S_ 1 := (fun x v => Host.reduce IntOp.andi x v reducesTo_S512x512_S_d0_1 h_S_) main_v107 main_c_42
  let main_v109 : IVec S_ 1 := andi main_v104 main_v108
  main_v109

def fn_part5 {F : FTy → Type} [FloatOps F] (main_arg17 : FVec F S2x2048x512 .f32) (main_arg18 : FVec F S2x512 .f32) (main_arg19 : FVec F S512 .f32) (main_arg20 : FVec F S512 .f32) (main_arg21 : FVec F S512x512 .f32) (main_v84 : IVec S_ 1) : IVec S_ 1 :=
  let main_v85 : FVec F S2x2048x512 .f32 := Host.absf main_arg17
  let main_cst_33 : FVec F S_ .f32 := constant S_ .f32 0x7F800000#32
  let main_v86 : FVec F S2x2048x512 .f32 := broadcastInDim S2x2048x512 ![] bcast_S_S2x2048x512 main_cst_33
  let main_v87 : IVec S2x2048x512 1 := cmpf .olt main_v85 main_v86
  let main_c_34 : IVec S_ 1 := constantI S_ 1 1#1
  let main_v88 : IVec S_ 1 := (fun x v => Host.reduce IntOp.andi x v reducesTo_S2x2048x512_S_d0_1_2 h_S_) main_v87 main_c_34
  let main_v89 : IVec S_ 1 := andi main_v84 main_v88
  let main_v90 : FVec F S2x512 .f32 := Host.absf main_arg18
  let main_cst_35 : FVec F S_ .f32 := constant S_ .f32 0x7F800000#32
  let main_v91 : FVec F S2x512 .f32 := broadcastInDim S2x512 ![] bcast_S_S2x512 main_cst_35
  let main_v92 : IVec S2x512 1 := cmpf .olt main_v90 main_v91
  let main_c_36 : IVec S_ 1 := constantI S_ 1 1#1
  let main_v93 : IVec S_ 1 := (fun x v => Host.reduce IntOp.andi x v reducesTo_S2x512_S_d0_1 h_S_) main_v92 main_c_36
  let main_v94 : IVec S_ 1 := andi main_v89 main_v93
  let main_v95 : FVec F S512 .f32 := Host.absf main_arg19
  let main_cst_37 : FVec F S_ .f32 := constant S_ .f32 0x7F800000#32
  let main_v96 : FVec F S512 .f32 := broadcastInDim S512 ![] bcast_S_S512 main_cst_37
  let main_v97 : IVec S512 1 := cmpf .olt main_v95 main_v96
  let main_c_38 : IVec S_ 1 := constantI S_ 1 1#1
  let main_v98 : IVec S_ 1 := (fun x v => Host.reduce IntOp.andi x v reducesTo_S512_S_d0 h_S_) main_v97 main_c_38
  let main_v99 : IVec S_ 1 := andi main_v94 main_v98
  let main_v100 : FVec F S512 .f32 := Host.absf main_arg20
  let main_cst_39 : FVec F S_ .f32 := constant S_ .f32 0x7F800000#32
  let main_v101 : FVec F S512 .f32 := broadcastInDim S512 ![] bcast_S_S512 main_cst_39
  fn_part6 (F := F) main_arg21 main_v99 main_v100 main_v101

def fn_part4 {F : FTy → Type} [FloatOps F] (main_arg14 : FVec F S2x512 .f32) (main_arg15 : FVec F S2x512x2048 .f32) (main_arg16 : FVec F S2x2048 .f32) (main_arg17 : FVec F S2x2048x512 .f32) (main_arg18 : FVec F S2x512 .f32) (main_arg19 : FVec F S512 .f32) (main_arg20 : FVec F S512 .f32) (main_arg21 : FVec F S512x512 .f32) (main_v64 : IVec S_ 1) (main_v67 : IVec S2x512 1) : IVec S_ 1 :=
  let main_c_26 : IVec S_ 1 := constantI S_ 1 1#1
  let main_v68 : IVec S_ 1 := (fun x v => Host.reduce IntOp.andi x v reducesTo_S2x512_S_d0_1 h_S_) main_v67 main_c_26
  let main_v69 : IVec S_ 1 := andi main_v64 main_v68
  let main_v70 : FVec F S2x512 .f32 := Host.absf main_arg14
  let main_cst_27 : FVec F S_ .f32 := constant S_ .f32 0x7F800000#32
  let main_v71 : FVec F S2x512 .f32 := broadcastInDim S2x512 ![] bcast_S_S2x512 main_cst_27
  let main_v72 : IVec S2x512 1 := cmpf .olt main_v70 main_v71
  let main_c_28 : IVec S_ 1 := constantI S_ 1 1#1
  let main_v73 : IVec S_ 1 := (fun x v => Host.reduce IntOp.andi x v reducesTo_S2x512_S_d0_1 h_S_) main_v72 main_c_28
  let main_v74 : IVec S_ 1 := andi main_v69 main_v73
  let main_v75 : FVec F S2x512x2048 .f32 := Host.absf main_arg15
  let main_cst_29 : FVec F S_ .f32 := constant S_ .f32 0x7F800000#32
  let main_v76 : FVec F S2x512x2048 .f32 := broadcastInDim S2x512x2048 ![] bcast_S_S2x512x2048 main_cst_29
  let main_v77 : IVec S2x512x2048 1 := cmpf .olt main_v75 main_v76
  let main_c_30 : IVec S_ 1 := constantI S_ 1 1#1
  let main_v78 : IVec S_ 1 := (fun x v => Host.reduce IntOp.andi x v reducesTo_S2x512x2048_S_d0_1_2 h_S_) main_v77 main_c_30
  let main_v79 : IVec S_ 1 := andi main_v74 main_v78
  let main_v80 : FVec F S2x2048 .f32 := Host.absf main_arg16
  let main_cst_31 : FVec F S_ .f32 := constant S_ .f32 0x7F800000#32
  let main_v81 : FVec F S2x2048 .f32 := broadcastInDim S2x2048 ![] bcast_S_S2x2048 main_cst_31
  let main_v82 : IVec S2x2048 1 := cmpf .olt main_v80 main_v81
  let main_c_32 : IVec S_ 1 := constantI S_ 1 1#1
  let main_v83 : IVec S_ 1 := (fun x v => Host.reduce IntOp.andi x v reducesTo_S2x2048_S_d0_1 h_S_) main_v82 main_c_32
  let main_v84 : IVec S_ 1 := andi main_v79 main_v83
  fn_part5 (F := F) main_arg17 main_arg18 main_arg19 main_arg20 main_arg21 main_v84

def fn_part3 {F : FTy → Type} [FloatOps F] (main_arg11 : FVec F S2x512x512 .f32) (main_arg12 : FVec F S2x512 .f32) (main_arg13 : FVec F S2x512 .f32) (main_arg14 : FVec F S2x512 .f32) (main_arg15 : FVec F S2x512x2048 .f32) (main_arg16 : FVec F S2x2048 .f32) (main_arg17 : FVec F S2x2048x512 .f32) (main_arg18 : FVec F S2x512 .f32) (main_arg19 : FVec F S512 .f32) (main_arg20 : FVec F S512 .f32) (main_arg21 : FVec F S512x512 .f32) (main_v49 : IVec S_ 1) (main_v50 : FVec F S2x1536 .f32) : IVec S_ 1 :=
  let main_cst_19 : FVec F S_ .f32 := constant S_ .f32 0x7F800000#32
  let main_v51 : FVec F S2x1536 .f32 := broadcastInDim S2x1536 ![] bcast_S_S2x1536 main_cst_19
  let main_v52 : IVec S2x1536 1 := cmpf .olt main_v50 main_v51
  let main_c_20 : IVec S_ 1 := constantI S_ 1 1#1
  let main_v53 : IVec S_ 1 := (fun x v => Host.reduce IntOp.andi x v reducesTo_S2x1536_S_d0_1 h_S_) main_v52 main_c_20
  let main_v54 : IVec S_ 1 := andi main_v49 main_v53
  let main_v55 : FVec F S2x512x512 .f32 := Host.absf main_arg11
  let main_cst_21 : FVec F S_ .f32 := constant S_ .f32 0x7F800000#32
  let main_v56 : FVec F S2x512x512 .f32 := broadcastInDim S2x512x512 ![] bcast_S_S2x512x512 main_cst_21
  let main_v57 : IVec S2x512x512 1 := cmpf .olt main_v55 main_v56
  let main_c_22 : IVec S_ 1 := constantI S_ 1 1#1
  let main_v58 : IVec S_ 1 := (fun x v => Host.reduce IntOp.andi x v reducesTo_S2x512x512_S_d0_1_2 h_S_) main_v57 main_c_22
  let main_v59 : IVec S_ 1 := andi main_v54 main_v58
  let main_v60 : FVec F S2x512 .f32 := Host.absf main_arg12
  let main_cst_23 : FVec F S_ .f32 := constant S_ .f32 0x7F800000#32
  let main_v61 : FVec F S2x512 .f32 := broadcastInDim S2x512 ![] bcast_S_S2x512 main_cst_23
  let main_v62 : IVec S2x512 1 := cmpf .olt main_v60 main_v61
  let main_c_24 : IVec S_ 1 := constantI S_ 1 1#1
  let main_v63 : IVec S_ 1 := (fun x v => Host.reduce IntOp.andi x v reducesTo_S2x512_S_d0_1 h_S_) main_v62 main_c_24
  let main_v64 : IVec S_ 1 := andi main_v59 main_v63
  let main_v65 : FVec F S2x512 .f32 := Host.absf main_arg13
  let main_cst_25 : FVec F S_ .f32 := constant S_ .f32 0x7F800000#32
  let main_v66 : FVec F S2x512 .f32 := broadcastInDim S2x512 ![] bcast_S_S2x512 main_cst_25
  let main_v67 : IVec S2x512 1 := cmpf .olt main_v65 main_v66
  fn_part4 (F := F) main_arg14 main_arg15 main_arg16 main_arg17 main_arg18 main_arg19 main_arg20 main_arg21 main_v64 main_v67

def fn_part2 {F : FTy → Type} [FloatOps F] (main_arg7 : FVec F S2x512 .f32) (main_arg8 : FVec F S2x512 .f32) (main_arg9 : FVec F S2x512x1536 .f32) (main_arg10 : FVec F S2x1536 .f32) (main_arg11 : FVec F S2x512x512 .f32) (main_arg12 : FVec F S2x512 .f32) (main_arg13 : FVec F S2x512 .f32) (main_arg14 : FVec F S2x512 .f32) (main_arg15 : FVec F S2x512x2048 .f32) (main_arg16 : FVec F S2x2048 .f32) (main_arg17 : FVec F S2x2048x512 .f32) (main_arg18 : FVec F S2x512 .f32) (main_arg19 : FVec F S512 .f32) (main_arg20 : FVec F S512 .f32) (main_arg21 : FVec F S512x512 .f32) (main_v29 : IVec S_ 1) (main_v32 : IVec S77x512 1) (main_c_12 : IVec S_ 1) : IVec S_ 1 :=
  let main_v33 : IVec S_ 1 := (fun x v => Host.reduce IntOp.andi x v reducesTo_S77x512_S_d0_1 h_S_) main_v32 main_c_12
  let main_v34 : IVec S_ 1 := andi main_v29 main_v33
  let main_v35 : FVec F S2x512 .f32 := Host.absf main_arg7
  let main_cst_13 : FVec F S_ .f32 := constant S_ .f32 0x7F800000#32
  let main_v36 : FVec F S2x512 .f32 := broadcastInDim S2x512 ![] bcast_S_S2x512 main_cst_13
  let main_v37 : IVec S2x512 1 := cmpf .olt main_v35 main_v36
  let main_c_14 : IVec S_ 1 := constantI S_ 1 1#1
  let main_v38 : IVec S_ 1 := (fun x v => Host.reduce IntOp.andi x v reducesTo_S2x512_S_d0_1 h_S_) main_v37 main_c_14
  let main_v39 : IVec S_ 1 := andi main_v34 main_v38
  let main_v40 : FVec F S2x512 .f32 := Host.absf main_arg8
  let main_cst_15 : FVec F S_ .f32 := constant S_ .f32 0x7F800000#32
  let main_v41 : FVec F S2x512 .f32 := broadcastInDim S2x512 ![] bcast_S_S2x512 main_cst_15
  let main_v42 : IVec S2x512 1 := cmpf .olt main_v40 main_v41
  let main_c_16 : IVec S_ 1 := constantI S_ 1 1#1
  let main_v43 : IVec S_ 1 := (fun x v => Host.reduce IntOp.andi x v reducesTo_S2x512_S_d0_1 h_S_) main_v42 main_c_16
  let main_v44 : IVec S_ 1 := andi main_v39 main_v43
  let main_v45 : FVec F S2x512x1536 .f32 := Host.absf main_arg9
  let main_cst_17 : FVec F S_ .f32 := constant S_ .f32 0x7F800000#32
  let main_v46 : FVec F S2x512x1536 .f32 := broadcastInDim S2x512x1536 ![] bcast_S_S2x512x1536 main_cst_17
  let main_v47 : IVec S2x512x1536 1 := cmpf .olt main_v45 main_v46
  let main_c_18 : IVec S_ 1 := constantI S_ 1 1#1
  let main_v48 : IVec S_ 1 := (fun x v => Host.reduce IntOp.andi x v reducesTo_S2x512x1536_S_d0_1_2 h_S_) main_v47 main_c_18
  let main_v49 : IVec S_ 1 := andi main_v44 main_v48
  let main_v50 : FVec F S2x1536 .f32 := Host.absf main_arg10
  fn_part3 (F := F) main_arg11 main_arg12 main_arg13 main_arg14 main_arg15 main_arg16 main_arg17 main_arg18 main_arg19 main_arg20 main_arg21 main_v49 main_v50

def fn_part1 {F : FTy → Type} [FloatOps F] (main_arg4 : FVec F S3x512 .f32) (main_arg5 : FVec F S4x512 .f32) (main_arg6 : FVec F S77x512 .f32) (main_arg7 : FVec F S2x512 .f32) (main_arg8 : FVec F S2x512 .f32) (main_arg9 : FVec F S2x512x1536 .f32) (main_arg10 : FVec F S2x1536 .f32) (main_arg11 : FVec F S2x512x512 .f32) (main_arg12 : FVec F S2x512 .f32) (main_arg13 : FVec F S2x512 .f32) (main_arg14 : FVec F S2x512 .f32) (main_arg15 : FVec F S2x512x2048 .f32) (main_arg16 : FVec F S2x2048 .f32) (main_arg17 : FVec F S2x2048x512 .f32) (main_arg18 : FVec F S2x512 .f32) (main_arg19 : FVec F S512 .f32) (main_arg20 : FVec F S512 .f32) (main_arg21 : FVec F S512x512 .f32) (main_v14 : IVec S_ 1) (main_v15 : FVec F S64x2x512 .f32) (main_cst_5 : FVec F S_ .f32) : IVec S_ 1 :=
  let main_v16 : FVec F S64x2x512 .f32 := broadcastInDim S64x2x512 ![] bcast_S_S64x2x512 main_cst_5
  let main_v17 : IVec S64x2x512 1 := cmpf .olt main_v15 main_v16
  let main_c_6 : IVec S_ 1 := constantI S_ 1 1#1
  let main_v18 : IVec S_ 1 := (fun x v => Host.reduce IntOp.andi x v reducesTo_S64x2x512_S_d0_1_2 h_S_) main_v17 main_c_6
  let main_v19 : IVec S_ 1 := andi main_v14 main_v18
  let main_v20 : FVec F S3x512 .f32 := Host.absf main_arg4
  let main_cst_7 : FVec F S_ .f32 := constant S_ .f32 0x7F800000#32
  let main_v21 : FVec F S3x512 .f32 := broadcastInDim S3x512 ![] bcast_S_S3x512 main_cst_7
  let main_v22 : IVec S3x512 1 := cmpf .olt main_v20 main_v21
  let main_c_8 : IVec S_ 1 := constantI S_ 1 1#1
  let main_v23 : IVec S_ 1 := (fun x v => Host.reduce IntOp.andi x v reducesTo_S3x512_S_d0_1 h_S_) main_v22 main_c_8
  let main_v24 : IVec S_ 1 := andi main_v19 main_v23
  let main_v25 : FVec F S4x512 .f32 := Host.absf main_arg5
  let main_cst_9 : FVec F S_ .f32 := constant S_ .f32 0x7F800000#32
  let main_v26 : FVec F S4x512 .f32 := broadcastInDim S4x512 ![] bcast_S_S4x512 main_cst_9
  let main_v27 : IVec S4x512 1 := cmpf .olt main_v25 main_v26
  let main_c_10 : IVec S_ 1 := constantI S_ 1 1#1
  let main_v28 : IVec S_ 1 := (fun x v => Host.reduce IntOp.andi x v reducesTo_S4x512_S_d0_1 h_S_) main_v27 main_c_10
  let main_v29 : IVec S_ 1 := andi main_v24 main_v28
  let main_v30 : FVec F S77x512 .f32 := Host.absf main_arg6
  let main_cst_11 : FVec F S_ .f32 := constant S_ .f32 0x7F800000#32
  let main_v31 : FVec F S77x512 .f32 := broadcastInDim S77x512 ![] bcast_S_S77x512 main_cst_11
  let main_v32 : IVec S77x512 1 := cmpf .olt main_v30 main_v31
  let main_c_12 : IVec S_ 1 := constantI S_ 1 1#1
  fn_part2 (F := F) main_arg7 main_arg8 main_arg9 main_arg10 main_arg11 main_arg12 main_arg13 main_arg14 main_arg15 main_arg16 main_arg17 main_arg18 main_arg19 main_arg20 main_arg21 main_v29 main_v32 main_c_12

def fn {F : FTy → Type} [FloatOps F] (main_arg0 : FVec F S512 .f32) (main_arg1 : FVec F S512 .f32) (main_arg2 : FVec F S4x4x512 .f32) (main_arg3 : FVec F S64x2x512 .f32) (main_arg4 : FVec F S3x512 .f32) (main_arg5 : FVec F S4x512 .f32) (main_arg6 : FVec F S77x512 .f32) (main_arg7 : FVec F S2x512 .f32) (main_arg8 : FVec F S2x512 .f32) (main_arg9 : FVec F S2x512x1536 .f32) (main_arg10 : FVec F S2x1536 .f32) (main_arg11 : FVec F S2x512x512 .f32) (main_arg12 : FVec F S2x512 .f32) (main_arg13 : FVec F S2x512 .f32) (main_arg14 : FVec F S2x512 .f32) (main_arg15 : FVec F S2x512x2048 .f32) (main_arg16 : FVec F S2x2048 .f32) (main_arg17 : FVec F S2x2048x512 .f32) (main_arg18 : FVec F S2x512 .f32) (main_arg19 : FVec F S512 .f32) (main_arg20 : FVec F S512 .f32) (main_arg21 : FVec F S512x512 .f32) : IVec S_ 1 :=
  let main_v0 : FVec F S512 .f32 := Host.absf main_arg0
  let main_cst : FVec F S_ .f32 := constant S_ .f32 0x7F800000#32
  let main_v1 : FVec F S512 .f32 := broadcastInDim S512 ![] bcast_S_S512 main_cst
  let main_v2 : IVec S512 1 := cmpf .olt main_v0 main_v1
  let main_c : IVec S_ 1 := constantI S_ 1 1#1
  let main_v3 : IVec S_ 1 := (fun x v => Host.reduce IntOp.andi x v reducesTo_S512_S_d0 h_S_) main_v2 main_c
  let main_c_0 : IVec S_ 1 := constantI S_ 1 1#1
  let main_v4 : IVec S_ 1 := andi main_c_0 main_v3
  let main_v5 : FVec F S512 .f32 := Host.absf main_arg1
  let main_cst_1 : FVec F S_ .f32 := constant S_ .f32 0x7F800000#32
  let main_v6 : FVec F S512 .f32 := broadcastInDim S512 ![] bcast_S_S512 main_cst_1
  let main_v7 : IVec S512 1 := cmpf .olt main_v5 main_v6
  let main_c_2 : IVec S_ 1 := constantI S_ 1 1#1
  let main_v8 : IVec S_ 1 := (fun x v => Host.reduce IntOp.andi x v reducesTo_S512_S_d0 h_S_) main_v7 main_c_2
  let main_v9 : IVec S_ 1 := andi main_v4 main_v8
  let main_v10 : FVec F S4x4x512 .f32 := Host.absf main_arg2
  let main_cst_3 : FVec F S_ .f32 := constant S_ .f32 0x7F800000#32
  let main_v11 : FVec F S4x4x512 .f32 := broadcastInDim S4x4x512 ![] bcast_S_S4x4x512 main_cst_3
  let main_v12 : IVec S4x4x512 1 := cmpf .olt main_v10 main_v11
  let main_c_4 : IVec S_ 1 := constantI S_ 1 1#1
  let main_v13 : IVec S_ 1 := (fun x v => Host.reduce IntOp.andi x v reducesTo_S4x4x512_S_d0_1_2 h_S_) main_v12 main_c_4
  let main_v14 : IVec S_ 1 := andi main_v9 main_v13
  let main_v15 : FVec F S64x2x512 .f32 := Host.absf main_arg3
  let main_cst_5 : FVec F S_ .f32 := constant S_ .f32 0x7F800000#32
  fn_part1 (F := F) main_arg4 main_arg5 main_arg6 main_arg7 main_arg8 main_arg9 main_arg10 main_arg11 main_arg12 main_arg13 main_arg14 main_arg15 main_arg16 main_arg17 main_arg18 main_arg19 main_arg20 main_arg21 main_v14 main_v15 main_cst_5
-- ==== Kernel.lean ====
abbrev S512 : Shape := ⟨1, ![512]⟩
abbrev S4x4x512 : Shape := ⟨3, ![4, 4, 512]⟩
abbrev S64x2x512 : Shape := ⟨3, ![64, 2, 512]⟩
abbrev S3x512 : Shape := ⟨2, ![3, 512]⟩
abbrev S4x512 : Shape := ⟨2, ![4, 512]⟩
abbrev S77x512 : Shape := ⟨2, ![77, 512]⟩
abbrev S2x512 : Shape := ⟨2, ![2, 512]⟩
abbrev S2x512x1536 : Shape := ⟨3, ![2, 512, 1536]⟩
abbrev S2x1536 : Shape := ⟨2, ![2, 1536]⟩
abbrev S2x512x512 : Shape := ⟨3, ![2, 512, 512]⟩
abbrev S2x512x2048 : Shape := ⟨3, ![2, 512, 2048]⟩
abbrev S2x2048 : Shape := ⟨2, ![2, 2048]⟩
abbrev S2x2048x512 : Shape := ⟨3, ![2, 2048, 512]⟩
abbrev S512x512 : Shape := ⟨2, ![512, 512]⟩
abbrev S_ : Shape := ⟨0, ![]⟩
abbrev S1x512 : Shape := ⟨2, ![1, 512]⟩
abbrev S6x512 : Shape := ⟨2, ![6, 512]⟩
abbrev S16x512 : Shape := ⟨2, ![16, 512]⟩
abbrev S8x512 : Shape := ⟨2, ![8, 512]⟩
abbrev S32x512 : Shape := ⟨2, ![32, 512]⟩
abbrev S128x512 : Shape := ⟨2, ![128, 512]⟩
abbrev S1x64x512 : Shape := ⟨3, ![1, 64, 512]⟩
abbrev S64x512 : Shape := ⟨2, ![64, 512]⟩
abbrev S1x32x512 : Shape := ⟨3, ![1, 32, 512]⟩
abbrev S32x32 : Shape := ⟨2, ![32, 32]⟩
abbrev S80x512 : Shape := ⟨2, ![80, 512]⟩
abbrev S768x80 : Shape := ⟨2, ![768, 80]⟩
abbrev S768x512 : Shape := ⟨2, ![768, 512]⟩
abbrev S96x104 : Shape := ⟨2, ![96, 104]⟩
abbrev S1x96x104 : Shape := ⟨3, ![1, 96, 104]⟩
abbrev S32 : Shape := ⟨1, ![32]⟩
abbrev S32x1 : Shape := ⟨2, ![32, 1]⟩
abbrev S1x512x1536 : Shape := ⟨3, ![1, 512, 1536]⟩
abbrev S512x1536 : Shape := ⟨2, ![512, 1536]⟩
abbrev S32x1536 : Shape := ⟨2, ![32, 1536]⟩
abbrev S1x1536 : Shape := ⟨2, ![1, 1536]⟩
abbrev S1536 : Shape := ⟨1, ![1536]⟩
abbrev S768 : Shape := ⟨1, ![768]⟩
abbrev S768x1 : Shape := ⟨2, ![768, 1]⟩
abbrev S768x1536 : Shape := ⟨2, ![768, 1536]⟩
abbrev S8x96x1536 : Shape := ⟨3, ![8, 96, 1536]⟩
abbrev S4x1x8x1536 : Shape := ⟨4, ![4, 1, 8, 1536]⟩
abbrev S4x2x8x1536 : Shape := ⟨4, ![4, 2, 8, 1536]⟩
abbrev S8x8x1536 : Shape := ⟨3, ![8, 8, 1536]⟩
abbrev S8x104x1536 : Shape := ⟨3, ![8, 104, 1536]⟩
abbrev S8x96x64 : Shape := ⟨3, ![8, 96, 64]⟩
abbrev S8x104x64 : Shape := ⟨3, ![8, 104, 64]⟩
abbrev S8x96x104 : Shape := ⟨3, ![8, 96, 104]⟩
abbrev S8x96 : Shape := ⟨2, ![8, 96]⟩
abbrev S8x96x1 : Shape := ⟨3, ![8, 96, 1]⟩
abbrev S768x64 : Shape := ⟨2, ![768, 64]⟩
abbrev S1x512x512 : Shape := ⟨3, ![1, 512, 512]⟩
abbrev S1x512x2048 : Shape := ⟨3, ![1, 512, 2048]⟩
abbrev S512x2048 : Shape := ⟨2, ![512, 2048]⟩
abbrev S768x2048 : Shape := ⟨2, ![768, 2048]⟩
abbrev S1x2048 : Shape := ⟨2, ![1, 2048]⟩
abbrev S2048 : Shape := ⟨1, ![2048]⟩
abbrev S1x2048x512 : Shape := ⟨3, ![1, 2048, 512]⟩
abbrev S2048x512 : Shape := ⟨2, ![2048, 512]⟩
abbrev S32x64 : Shape := ⟨2, ![32, 64]⟩
abbrev S32x2048 : Shape := ⟨2, ![32, 2048]⟩
abbrev S32x768 : Shape := ⟨2, ![32, 768]⟩

abbrev nBuf : Space → Nat
  | .hbm => 39
  | .vmem => 21
  | .smem => 0
  | _ => 0

abbrev bufTy : (tb : Table) → Fin (tcTables nBuf tb) → BufTy
  | .hbm, ⟨0, _⟩ => ⟨S512, .f32⟩
  | .hbm, ⟨1, _⟩ => ⟨S512, .f32⟩
  | .hbm, ⟨2, _⟩ => ⟨S4x4x512, .f32⟩
  | .hbm, ⟨3, _⟩ => ⟨S64x2x512, .f32⟩
  | .hbm, ⟨4, _⟩ => ⟨S3x512, .f32⟩
  | .hbm, ⟨5, _⟩ => ⟨S4x512, .f32⟩
  | .hbm, ⟨6, _⟩ => ⟨S77x512, .f32⟩
  | .hbm, ⟨7, _⟩ => ⟨S2x512, .f32⟩
  | .hbm, ⟨8, _⟩ => ⟨S2x512, .f32⟩
  | .hbm, ⟨9, _⟩ => ⟨S2x512x1536, .f32⟩
  | .hbm, ⟨10, _⟩ => ⟨S2x1536, .f32⟩
  | .hbm, ⟨11, _⟩ => ⟨S2x512x512, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S2x512x2048, .f32⟩
  | .hbm, ⟨16, _⟩ => ⟨S2x2048, .f32⟩
  | .hbm, ⟨17, _⟩ => ⟨S2x2048x512, .f32⟩
  | .hbm, ⟨18, _⟩ => ⟨S2x512, .f32⟩
  | .hbm, ⟨19, _⟩ => ⟨S512, .f32⟩
  | .hbm, ⟨20, _⟩ => ⟨S512, .f32⟩
  | .hbm, ⟨21, _⟩ => ⟨S512x512, .f32⟩
  | .hbm, ⟨22, _⟩ => ⟨S_, .f32⟩
  | .hbm, ⟨23, _⟩ => ⟨S1x512, .f32⟩
  | .hbm, ⟨24, _⟩ => ⟨S6x512, .f32⟩
  | .hbm, ⟨25, _⟩ => ⟨S_, .f32⟩
  | .hbm, ⟨26, _⟩ => ⟨S2x512, .f32⟩
  | .hbm, ⟨27, _⟩ => ⟨S16x512, .f32⟩
  | .hbm, ⟨28, _⟩ => ⟨S1x512, .f32⟩
  | .hbm, ⟨29, _⟩ => ⟨S16x512, .f32⟩
  | .hbm, ⟨30, _⟩ => ⟨S1x512, .f32⟩
  | .hbm, ⟨31, _⟩ => ⟨S8x512, .f32⟩
  | .hbm, ⟨32, _⟩ => ⟨S_, .f32⟩
  | .hbm, ⟨33, _⟩ => ⟨S6x512, .f32⟩
  | .hbm, ⟨34, _⟩ => ⟨S32x512, .f32⟩
  | .hbm, ⟨35, _⟩ => ⟨S128x512, .f32⟩
  | .hbm, ⟨36, _⟩ => ⟨S1x512, .f32⟩
  | .hbm, ⟨37, _⟩ => ⟨S1x512, .f32⟩
  | .hbm, ⟨38, _⟩ => ⟨S1x64x512, .f32⟩
  | .local _ .vmem, ⟨0, _⟩ => ⟨S64x512, .f32⟩
  | .local _ .vmem, ⟨1, _⟩ => ⟨S64x512, .f32⟩
  | .local _ .vmem, ⟨2, _⟩ => ⟨S16x512, .f32⟩
  | .local _ .vmem, ⟨3, _⟩ => ⟨S32x512, .f32⟩
  | .local _ .vmem, ⟨4, _⟩ => ⟨S2x512, .f32⟩
  | .local _ .vmem, ⟨5, _⟩ => ⟨S2x512, .f32⟩
  | .local _ .vmem, ⟨6, _⟩ => ⟨S2x512x1536, .f32⟩
  | .local _ .vmem, ⟨7, _⟩ => ⟨S2x1536, .f32⟩
  | .local _ .vmem, ⟨8, _⟩ => ⟨S2x512x512, .f32⟩
  | .local _ .vmem, ⟨9, _⟩ => ⟨S2x512, .f32⟩
  | .local _ .vmem, ⟨10, _⟩ => ⟨S2x512, .f32⟩
  | .local _ .vmem, ⟨11, _⟩ => ⟨S2x512, .f32⟩
  | .local _ .vmem, ⟨12, _⟩ => ⟨S2x512x2048, .f32⟩
  | .local _ .vmem, ⟨13, _⟩ => ⟨S2x2048, .f32⟩
  | .local _ .vmem, ⟨14, _⟩ => ⟨S2x2048x512, .f32⟩
  | .local _ .vmem, ⟨15, _⟩ => ⟨S2x512, .f32⟩
  | .local _ .vmem, ⟨16, _⟩ => ⟨S1x512, .f32⟩
  | .local _ .vmem, ⟨17, _⟩ => ⟨S1x512, .f32⟩
  | .local _ .vmem, ⟨18, _⟩ => ⟨S512x512, .f32⟩
  | .local _ .vmem, ⟨19, _⟩ => ⟨S1x32x512, .f32⟩
  | .local _ .vmem, ⟨20, _⟩ => ⟨S1x32x512, .f32⟩
  | _, _ => ⟨S512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_v1 : Ref sig .tc := ⟨.hbm, 24, rfl⟩
abbrev main_cst_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg18_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem18_1 : DmaSem sig := 20

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x512x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x512x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x2048x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1x32x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S512 : Shape := ⟨1, ![512]⟩
abbrev S4x4x512 : Shape := ⟨3, ![4, 4, 512]⟩
abbrev S64x2x512 : Shape := ⟨3, ![64, 2, 512]⟩
abbrev S3x512 : Shape := ⟨2, ![3, 512]⟩
abbrev S4x512 : Shape := ⟨2, ![4, 512]⟩
abbrev S77x512 : Shape := ⟨2, ![77, 512]⟩
abbrev S2x512 : Shape := ⟨2, ![2, 512]⟩
abbrev S2x512x1536 : Shape := ⟨3, ![2, 512, 1536]⟩
abbrev S2x1536 : Shape := ⟨2, ![2, 1536]⟩
abbrev S2x512x512 : Shape := ⟨3, ![2, 512, 512]⟩
abbrev S2x512x2048 : Shape := ⟨3, ![2, 512, 2048]⟩
abbrev S2x2048 : Shape := ⟨2, ![2, 2048]⟩
abbrev S2x2048x512 : Shape := ⟨3, ![2, 2048, 512]⟩
abbrev S512x512 : Shape := ⟨2, ![512, 512]⟩
abbrev S1x1x1x512 : Shape := ⟨4, ![1, 1, 1, 512]⟩
abbrev S4x64x1x512 : Shape := ⟨4, ![4, 64, 1, 512]⟩
abbrev S4x1x4x512 : Shape := ⟨4, ![4, 1, 4, 512]⟩
abbrev S4x64x4x512 : Shape := ⟨4, ![4, 64, 4, 512]⟩
abbrev S1x64x2x512 : Shape := ⟨4, ![1, 64, 2, 512]⟩
abbrev S4x64x2x512 : Shape := ⟨4, ![4, 64, 2, 512]⟩
abbrev S1x1x3x512 : Shape := ⟨4, ![1, 1, 3, 512]⟩
abbrev S4x64x3x512 : Shape := ⟨4, ![4, 64, 3, 512]⟩
abbrev S4x1x1x512 : Shape := ⟨4, ![4, 1, 1, 512]⟩
abbrev S4x64x66x512 : Shape := ⟨4, ![4, 64, 66, 512]⟩
abbrev S4x64x77x512 : Shape := ⟨4, ![4, 64, 77, 512]⟩
abbrev S1x1x77x512 : Shape := ⟨4, ![1, 1, 77, 512]⟩
abbrev S256x77x512 : Shape := ⟨3, ![256, 77, 512]⟩
abbrev S_ : Shape := ⟨0, ![]⟩
abbrev S77x77 : Shape := ⟨2, ![77, 77]⟩
abbrev S1x512 : Shape := ⟨2, ![1, 512]⟩
abbrev S256x77 : Shape := ⟨2, ![256, 77]⟩
abbrev S256x77x1 : Shape := ⟨3, ![256, 77, 1]⟩
abbrev S1x1x512 : Shape := ⟨3, ![1, 1, 512]⟩
abbrev S1x512x1536 : Shape := ⟨3, ![1, 512, 1536]⟩
abbrev S512x1536 : Shape := ⟨2, ![512, 1536]⟩
abbrev S256x77x1536 : Shape := ⟨3, ![256, 77, 1536]⟩
abbrev S1x1536 : Shape := ⟨2, ![1, 1536]⟩
abbrev S1536 : Shape := ⟨1, ![1536]⟩
abbrev S1x1x1536 : Shape := ⟨3, ![1, 1, 1536]⟩
abbrev S256x77x8x64 : Shape := ⟨4, ![256, 77, 8, 64]⟩
abbrev S256x8x77x64 : Shape := ⟨4, ![256, 8, 77, 64]⟩
abbrev S256x8x64x77 : Shape := ⟨4, ![256, 8, 64, 77]⟩
abbrev S256x8x77x77 : Shape := ⟨4, ![256, 8, 77, 77]⟩
abbrev S1x1x77x77 : Shape := ⟨4, ![1, 1, 77, 77]⟩
abbrev S256x8x77 : Shape := ⟨3, ![256, 8, 77]⟩
abbrev S256x8x77x1 : Shape := ⟨4, ![256, 8, 77, 1]⟩
abbrev S1x512x512 : Shape := ⟨3, ![1, 512, 512]⟩
abbrev S1x512x2048 : Shape := ⟨3, ![1, 512, 2048]⟩
abbrev S512x2048 : Shape := ⟨2, ![512, 2048]⟩
abbrev S256x77x2048 : Shape := ⟨3, ![256, 77, 2048]⟩
abbrev S1x2048 : Shape := ⟨2, ![1, 2048]⟩
abbrev S2048 : Shape := ⟨1, ![2048]⟩
abbrev S1x1x2048 : Shape := ⟨3, ![1, 1, 2048]⟩
abbrev S1x2048x512 : Shape := ⟨3, ![1, 2048, 512]⟩
abbrev S2048x512 : Shape := ⟨2, ![2048, 512]⟩
abbrev S256x1x512 : Shape := ⟨3, ![256, 1, 512]⟩
abbrev S256x512 : Shape := ⟨2, ![256, 512]⟩
abbrev S4x64x512 : Shape := ⟨3, ![4, 64, 512]⟩
abbrev S64x512 : Shape := ⟨2, ![64, 512]⟩
abbrev S1x64x512 : Shape := ⟨3, ![1, 64, 512]⟩

abbrev nBuf : Space → Nat
  | .hbm => 387
  | .vmem => 0
  | .smem => 0
  | _ => 0

abbrev hbmTy0_0 (i : Nat) : BufTy := match i % 128 with
  | 0 => ⟨S512, .f32⟩
  | 1 => ⟨S512, .f32⟩
  | 2 => ⟨S4x4x512, .f32⟩
  | 3 => ⟨S64x2x512, .f32⟩
  | 4 => ⟨S3x512, .f32⟩
  | 5 => ⟨S4x512, .f32⟩
  | 6 => ⟨S77x512, .f32⟩
  | 7 => ⟨S2x512, .f32⟩
  | 8 => ⟨S2x512, .f32⟩
  | 9 => ⟨S2x512x1536, .f32⟩
  | 10 => ⟨S2x1536, .f32⟩
  | 11 => ⟨S2x512x512, .f32⟩
  | 12 => ⟨S2x512, .f32⟩
  | 13 => ⟨S2x512, .f32⟩
  | 14 => ⟨S2x512, .f32⟩
  | 15 => ⟨S2x512x2048, .f32⟩
  | 16 => ⟨S2x2048, .f32⟩
  | 17 => ⟨S2x2048x512, .f32⟩
  | 18 => ⟨S2x512, .f32⟩
  | 19 => ⟨S512, .f32⟩
  | 20 => ⟨S512, .f32⟩
  | 21 => ⟨S512x512, .f32⟩
  | 22 => ⟨S1x1x1x512, .f32⟩
  | 23 => ⟨S4x64x1x512, .f32⟩
  | 24 => ⟨S4x1x4x512, .f32⟩
  | 25 => ⟨S4x64x4x512, .f32⟩
  | 26 => ⟨S1x64x2x512, .f32⟩
  | 27 => ⟨S4x64x2x512, .f32⟩
  | 28 => ⟨S1x1x3x512, .f32⟩
  | 29 => ⟨S4x64x3x512, .f32⟩
  | 30 => ⟨S4x1x1x512, .f32⟩
  | 31 => ⟨S4x64x1x512, .f32⟩
  | 32 => ⟨S1x1x1x512, .f32⟩
  | 33 => ⟨S4x64x66x512, .f32⟩
  | 34 => ⟨S4x64x77x512, .f32⟩
  | 35 => ⟨S1x1x77x512, .f32⟩
  | 36 => ⟨S4x64x77x512, .f32⟩
  | 37 => ⟨S4x64x77x512, .f32⟩
  | 38 => ⟨S256x77x512, .f32⟩
  | 39 => ⟨S_, .i1⟩
  | 40 => ⟨S77x77, .i1⟩
  | 41 => ⟨S77x77, .i32⟩
  | 42 => ⟨S_, .i32⟩
  | 43 => ⟨S77x77, .i32⟩
  | 44 => ⟨S77x77, .i32⟩
  | 45 => ⟨S77x77, .i32⟩
  | 46 => ⟨S77x77, .i1⟩
  | 47 => ⟨S_, .i1⟩
  | 48 => ⟨S77x77, .i1⟩
  | 49 => ⟨S77x77, .i1⟩
  | 50 => ⟨S_, .f32⟩
  | 51 => ⟨S_, .f32⟩
  | 52 => ⟨S77x77, .f32⟩
  | 53 => ⟨S77x77, .f32⟩
  | 54 => ⟨S77x77, .f32⟩
  | 55 => ⟨S77x77, .f32⟩
  | 56 => ⟨S1x512, .f32⟩
  | 57 => ⟨S512, .f32⟩
  | 58 => ⟨S1x512, .f32⟩
  | 59 => ⟨S512, .f32⟩
  | 60 => ⟨S_, .f32⟩
  | 61 => ⟨S256x77, .f32⟩
  | 62 => ⟨S256x77x1, .f32⟩
  | 63 => ⟨S_, .f32⟩
  | 64 => ⟨S256x77x1, .f32⟩
  | 65 => ⟨S256x77x1, .f32⟩
  | 66 => ⟨S256x77x512, .f32⟩
  | 67 => ⟨S256x77x512, .f32⟩
  | 68 => ⟨S256x77x512, .f32⟩
  | 69 => ⟨S_, .f32⟩
  | 70 => ⟨S256x77, .f32⟩
  | 71 => ⟨S256x77x1, .f32⟩
  | 72 => ⟨S_, .f32⟩
  | 73 => ⟨S256x77x1, .f32⟩
  | 74 => ⟨S256x77x1, .f32⟩
  | 75 => ⟨S256x77x512, .f32⟩
  | 76 => ⟨S256x77x512, .f32⟩
  | 77 => ⟨S_, .f32⟩
  | 78 => ⟨S256x77x1, .f32⟩
  | 79 => ⟨S256x77x1, .f32⟩
  | 80 => ⟨S256x77x1, .f32⟩
  | 81 => ⟨S256x77x512, .f32⟩
  | 82 => ⟨S256x77x512, .f32⟩
  | 83 => ⟨S1x1x512, .f32⟩
  | 84 => ⟨S256x77x512, .f32⟩
  | 85 => ⟨S256x77x512, .f32⟩
  | 86 => ⟨S1x1x512, .f32⟩
  | 87 => ⟨S256x77x512, .f32⟩
  | 88 => ⟨S256x77x512, .f32⟩
  | 89 => ⟨S1x512x1536, .f32⟩
  | 90 => ⟨S512x1536, .f32⟩
  | 91 => ⟨S256x77x1536, .f32⟩
  | 92 => ⟨S1x1536, .f32⟩
  | 93 => ⟨S1536, .f32⟩
  | 94 => ⟨S1x1x1536, .f32⟩
  | 95 => ⟨S256x77x1536, .f32⟩
  | 96 => ⟨S256x77x1536, .f32⟩
  | 97 => ⟨S256x77x512, .f32⟩
  | 98 => ⟨S256x77x512, .f32⟩
  | 99 => ⟨S256x77x512, .f32⟩
  | 100 => ⟨S256x77x8x64, .f32⟩
  | 101 => ⟨S256x8x77x64, .f32⟩
  | 102 => ⟨S256x77x8x64, .f32⟩
  | 103 => ⟨S256x8x77x64, .f32⟩
  | 104 => ⟨S256x77x8x64, .f32⟩
  | 105 => ⟨S256x8x77x64, .f32⟩
  | 106 => ⟨S256x8x64x77, .f32⟩
  | 107 => ⟨S256x8x77x77, .f32⟩
  | 108 => ⟨S_, .f32⟩
  | 109 => ⟨S256x8x77x77, .f32⟩
  | 110 => ⟨S256x8x77x77, .f32⟩
  | 111 => ⟨S1x1x77x77, .f32⟩
  | 112 => ⟨S256x8x77x77, .f32⟩
  | 113 => ⟨S256x8x77x77, .f32⟩
  | 114 => ⟨S_, .f32⟩
  | 115 => ⟨S256x8x77, .f32⟩
  | 116 => ⟨S_, .f32⟩
  | 117 => ⟨S256x8x77, .f32⟩
  | 118 => ⟨S256x8x77, .f32⟩
  | 119 => ⟨S256x8x77x1, .f32⟩
  | 120 => ⟨S256x8x77x77, .f32⟩
  | 121 => ⟨S256x8x77x77, .f32⟩
  | 122 => ⟨S256x8x77x77, .f32⟩
  | 123 => ⟨S_, .f32⟩
  | 124 => ⟨S256x8x77, .f32⟩
  | 125 => ⟨S256x8x77x1, .f32⟩
  | 126 => ⟨S256x8x77x77, .f32⟩
  | 127 => ⟨S256x8x77x77, .f32⟩
  | _ => ⟨S512, .f32⟩

abbrev hbmTy0_1 (i : Nat) : BufTy := match i % 128 with
  | 0 => ⟨S256x8x77x64, .f32⟩
  | 1 => ⟨S256x77x8x64, .f32⟩
  | 2 => ⟨S256x77x512, .f32⟩
  | 3 => ⟨S1x512x512, .f32⟩
  | 4 => ⟨S512x512, .f32⟩
  | 5 => ⟨S256x77x512, .f32⟩
  | 6 => ⟨S256x77x512, .f32⟩
  | 7 => ⟨S1x512, .f32⟩
  | 8 => ⟨S512, .f32⟩
  | 9 => ⟨S1x1x512, .f32⟩
  | 10 => ⟨S256x77x512, .f32⟩
  | 11 => ⟨S256x77x512, .f32⟩
  | 12 => ⟨S1x512, .f32⟩
  | 13 => ⟨S512, .f32⟩
  | 14 => ⟨S1x512, .f32⟩
  | 15 => ⟨S512, .f32⟩
  | 16 => ⟨S_, .f32⟩
  | 17 => ⟨S256x77, .f32⟩
  | 18 => ⟨S256x77x1, .f32⟩
  | 19 => ⟨S_, .f32⟩
  | 20 => ⟨S256x77x1, .f32⟩
  | 21 => ⟨S256x77x1, .f32⟩
  | 22 => ⟨S256x77x512, .f32⟩
  | 23 => ⟨S256x77x512, .f32⟩
  | 24 => ⟨S256x77x512, .f32⟩
  | 25 => ⟨S_, .f32⟩
  | 26 => ⟨S256x77, .f32⟩
  | 27 => ⟨S256x77x1, .f32⟩
  | 28 => ⟨S_, .f32⟩
  | 29 => ⟨S256x77x1, .f32⟩
  | 30 => ⟨S256x77x1, .f32⟩
  | 31 => ⟨S256x77x512, .f32⟩
  | 32 => ⟨S256x77x512, .f32⟩
  | 33 => ⟨S_, .f32⟩
  | 34 => ⟨S256x77x1, .f32⟩
  | 35 => ⟨S256x77x1, .f32⟩
  | 36 => ⟨S256x77x1, .f32⟩
  | 37 => ⟨S256x77x512, .f32⟩
  | 38 => ⟨S256x77x512, .f32⟩
  | 39 => ⟨S1x1x512, .f32⟩
  | 40 => ⟨S256x77x512, .f32⟩
  | 41 => ⟨S256x77x512, .f32⟩
  | 42 => ⟨S1x1x512, .f32⟩
  | 43 => ⟨S256x77x512, .f32⟩
  | 44 => ⟨S256x77x512, .f32⟩
  | 45 => ⟨S1x512x2048, .f32⟩
  | 46 => ⟨S512x2048, .f32⟩
  | 47 => ⟨S256x77x2048, .f32⟩
  | 48 => ⟨S1x2048, .f32⟩
  | 49 => ⟨S2048, .f32⟩
  | 50 => ⟨S1x1x2048, .f32⟩
  | 51 => ⟨S256x77x2048, .f32⟩
  | 52 => ⟨S256x77x2048, .f32⟩
  | 53 => ⟨S_, .f32⟩
  | 54 => ⟨S256x77x2048, .f32⟩
  | 55 => ⟨S256x77x2048, .f32⟩
  | 56 => ⟨S256x77x2048, .f32⟩
  | 57 => ⟨S256x77x2048, .f32⟩
  | 58 => ⟨S_, .f32⟩
  | 59 => ⟨S256x77x2048, .f32⟩
  | 60 => ⟨S256x77x2048, .f32⟩
  | 61 => ⟨S_, .f32⟩
  | 62 => ⟨S256x77x2048, .f32⟩
  | 63 => ⟨S256x77x2048, .f32⟩
  | 64 => ⟨S256x77x2048, .f32⟩
  | 65 => ⟨S1x2048x512, .f32⟩
  | 66 => ⟨S2048x512, .f32⟩
  | 67 => ⟨S256x77x512, .f32⟩
  | 68 => ⟨S256x77x512, .f32⟩
  | 69 => ⟨S1x512, .f32⟩
  | 70 => ⟨S512, .f32⟩
  | 71 => ⟨S1x1x512, .f32⟩
  | 72 => ⟨S256x77x512, .f32⟩
  | 73 => ⟨S256x77x512, .f32⟩
  | 74 => ⟨S1x512, .f32⟩
  | 75 => ⟨S512, .f32⟩
  | 76 => ⟨S1x512, .f32⟩
  | 77 => ⟨S512, .f32⟩
  | 78 => ⟨S_, .f32⟩
  | 79 => ⟨S256x77, .f32⟩
  | 80 => ⟨S256x77x1, .f32⟩
  | 81 => ⟨S_, .f32⟩
  | 82 => ⟨S256x77x1, .f32⟩
  | 83 => ⟨S256x77x1, .f32⟩
  | 84 => ⟨S256x77x512, .f32⟩
  | 85 => ⟨S256x77x512, .f32⟩
  | 86 => ⟨S256x77x512, .f32⟩
  | 87 => ⟨S_, .f32⟩
  | 88 => ⟨S256x77, .f32⟩
  | 89 => ⟨S256x77x1, .f32⟩
  | 90 => ⟨S_, .f32⟩
  | 91 => ⟨S256x77x1, .f32⟩
  | 92 => ⟨S256x77x1, .f32⟩
  | 93 => ⟨S256x77x512, .f32⟩
  | 94 => ⟨S256x77x512, .f32⟩
  | 95 => ⟨S_, .f32⟩
  | 96 => ⟨S256x77x1, .f32⟩
  | 97 => ⟨S256x77x1, .f32⟩
  | 98 => ⟨S256x77x1, .f32⟩
  | 99 => ⟨S256x77x512, .f32⟩
  | 100 => ⟨S256x77x512, .f32⟩
  | 101 => ⟨S1x1x512, .f32⟩
  | 102 => ⟨S256x77x512, .f32⟩
  | 103 => ⟨S256x77x512, .f32⟩
  | 104 => ⟨S1x1x512, .f32⟩
  | 105 => ⟨S256x77x512, .f32⟩
  | 106 => ⟨S256x77x512, .f32⟩
  | 107 => ⟨S1x512x1536, .f32⟩
  | 108 => ⟨S512x1536, .f32⟩
  | 109 => ⟨S256x77x1536, .f32⟩
  | 110 => ⟨S1x1536, .f32⟩
  | 111 => ⟨S1536, .f32⟩
  | 112 => ⟨S1x1x1536, .f32⟩
  | 113 => ⟨S256x77x1536, .f32⟩
  | 114 => ⟨S256x77x1536, .f32⟩
  | 115 => ⟨S256x77x512, .f32⟩
  | 116 => ⟨S256x77x512, .f32⟩
  | 117 => ⟨S256x77x512, .f32⟩
  | 118 => ⟨S256x77x8x64, .f32⟩
  | 119 => ⟨S256x8x77x64, .f32⟩
  | 120 => ⟨S256x77x8x64, .f32⟩
  | 121 => ⟨S256x8x77x64, .f32⟩
  | 122 => ⟨S256x77x8x64, .f32⟩
  | 123 => ⟨S256x8x77x64, .f32⟩
  | 124 => ⟨S256x8x64x77, .f32⟩
  | 125 => ⟨S256x8x77x77, .f32⟩
  | 126 => ⟨S_, .f32⟩
  | 127 => ⟨S256x8x77x77, .f32⟩
  | _ => ⟨S512, .f32⟩

abbrev hbmTy0_2 (i : Nat) : BufTy := match i % 128 with
  | 0 => ⟨S256x8x77x77, .f32⟩
  | 1 => ⟨S1x1x77x77, .f32⟩
  | 2 => ⟨S256x8x77x77, .f32⟩
  | 3 => ⟨S256x8x77x77, .f32⟩
  | 4 => ⟨S_, .f32⟩
  | 5 => ⟨S256x8x77, .f32⟩
  | 6 => ⟨S_, .f32⟩
  | 7 => ⟨S256x8x77, .f32⟩
  | 8 => ⟨S256x8x77, .f32⟩
  | 9 => ⟨S256x8x77x1, .f32⟩
  | 10 => ⟨S256x8x77x77, .f32⟩
  | 11 => ⟨S256x8x77x77, .f32⟩
  | 12 => ⟨S256x8x77x77, .f32⟩
  | 13 => ⟨S_, .f32⟩
  | 14 => ⟨S256x8x77, .f32⟩
  | 15 => ⟨S256x8x77x1, .f32⟩
  | 16 => ⟨S256x8x77x77, .f32⟩
  | 17 => ⟨S256x8x77x77, .f32⟩
  | 18 => ⟨S256x8x77x64, .f32⟩
  | 19 => ⟨S256x77x8x64, .f32⟩
  | 20 => ⟨S256x77x512, .f32⟩
  | 21 => ⟨S1x512x512, .f32⟩
  | 22 => ⟨S512x512, .f32⟩
  | 23 => ⟨S256x77x512, .f32⟩
  | 24 => ⟨S256x77x512, .f32⟩
  | 25 => ⟨S1x512, .f32⟩
  | 26 => ⟨S512, .f32⟩
  | 27 => ⟨S1x1x512, .f32⟩
  | 28 => ⟨S256x77x512, .f32⟩
  | 29 => ⟨S256x77x512, .f32⟩
  | 30 => ⟨S1x512, .f32⟩
  | 31 => ⟨S512, .f32⟩
  | 32 => ⟨S1x512, .f32⟩
  | 33 => ⟨S512, .f32⟩
  | 34 => ⟨S_, .f32⟩
  | 35 => ⟨S256x77, .f32⟩
  | 36 => ⟨S256x77x1, .f32⟩
  | 37 => ⟨S_, .f32⟩
  | 38 => ⟨S256x77x1, .f32⟩
  | 39 => ⟨S256x77x1, .f32⟩
  | 40 => ⟨S256x77x512, .f32⟩
  | 41 => ⟨S256x77x512, .f32⟩
  | 42 => ⟨S256x77x512, .f32⟩
  | 43 => ⟨S_, .f32⟩
  | 44 => ⟨S256x77, .f32⟩
  | 45 => ⟨S256x77x1, .f32⟩
  | 46 => ⟨S_, .f32⟩
  | 47 => ⟨S256x77x1, .f32⟩
  | 48 => ⟨S256x77x1, .f32⟩
  | 49 => ⟨S256x77x512, .f32⟩
  | 50 => ⟨S256x77x512, .f32⟩
  | 51 => ⟨S_, .f32⟩
  | 52 => ⟨S256x77x1, .f32⟩
  | 53 => ⟨S256x77x1, .f32⟩
  | 54 => ⟨S256x77x1, .f32⟩
  | 55 => ⟨S256x77x512, .f32⟩
  | 56 => ⟨S256x77x512, .f32⟩
  | 57 => ⟨S1x1x512, .f32⟩
  | 58 => ⟨S256x77x512, .f32⟩
  | 59 => ⟨S256x77x512, .f32⟩
  | 60 => ⟨S1x1x512, .f32⟩
  | 61 => ⟨S256x77x512, .f32⟩
  | 62 => ⟨S256x77x512, .f32⟩
  | 63 => ⟨S1x512x2048, .f32⟩
  | 64 => ⟨S512x2048, .f32⟩
  | 65 => ⟨S256x77x2048, .f32⟩
  | 66 => ⟨S1x2048, .f32⟩
  | 67 => ⟨S2048, .f32⟩
  | 68 => ⟨S1x1x2048, .f32⟩
  | 69 => ⟨S256x77x2048, .f32⟩
  | 70 => ⟨S256x77x2048, .f32⟩
  | 71 => ⟨S_, .f32⟩
  | 72 => ⟨S256x77x2048, .f32⟩
  | 73 => ⟨S256x77x2048, .f32⟩
  | 74 => ⟨S256x77x2048, .f32⟩
  | 75 => ⟨S256x77x2048, .f32⟩
  | 76 => ⟨S_, .f32⟩
  | 77 => ⟨S256x77x2048, .f32⟩
  | 78 => ⟨S256x77x2048, .f32⟩
  | 79 => ⟨S_, .f32⟩
  | 80 => ⟨S256x77x2048, .f32⟩
  | 81 => ⟨S256x77x2048, .f32⟩
  | 82 => ⟨S256x77x2048, .f32⟩
  | 83 => ⟨S1x2048x512, .f32⟩
  | 84 => ⟨S2048x512, .f32⟩
  | 85 => ⟨S256x77x512, .f32⟩
  | 86 => ⟨S256x77x512, .f32⟩
  | 87 => ⟨S1x512, .f32⟩
  | 88 => ⟨S512, .f32⟩
  | 89 => ⟨S1x1x512, .f32⟩
  | 90 => ⟨S256x77x512, .f32⟩
  | 91 => ⟨S256x77x512, .f32⟩
  | 92 => ⟨S_, .f32⟩
  | 93 => ⟨S256x77, .f32⟩
  | 94 => ⟨S256x77x1, .f32⟩
  | 95 => ⟨S_, .f32⟩
  | 96 => ⟨S256x77x1, .f32⟩
  | 97 => ⟨S256x77x1, .f32⟩
  | 98 => ⟨S256x77x512, .f32⟩
  | 99 => ⟨S256x77x512, .f32⟩
  | 100 => ⟨S256x77x512, .f32⟩
  | 101 => ⟨S_, .f32⟩
  | 102 => ⟨S256x77, .f32⟩
  | 103 => ⟨S256x77x1, .f32⟩
  | 104 => ⟨S_, .f32⟩
  | 105 => ⟨S256x77x1, .f32⟩
  | 106 => ⟨S256x77x1, .f32⟩
  | 107 => ⟨S256x77x512, .f32⟩
  | 108 => ⟨S256x77x512, .f32⟩
  | 109 => ⟨S_, .f32⟩
  | 110 => ⟨S256x77x1, .f32⟩
  | 111 => ⟨S256x77x1, .f32⟩
  | 112 => ⟨S256x77x1, .f32⟩
  | 113 => ⟨S256x77x512, .f32⟩
  | 114 => ⟨S256x77x512, .f32⟩
  | 115 => ⟨S1x1x512, .f32⟩
  | 116 => ⟨S256x77x512, .f32⟩
  | 117 => ⟨S256x77x512, .f32⟩
  | 118 => ⟨S1x1x512, .f32⟩
  | 119 => ⟨S256x77x512, .f32⟩
  | 120 => ⟨S256x77x512, .f32⟩
  | 121 => ⟨S256x1x512, .f32⟩
  | 122 => ⟨S256x512, .f32⟩
  | 123 => ⟨S4x64x512, .f32⟩
  | 124 => ⟨S4x64x512, .f32⟩
  | 125 => ⟨S_, .f32⟩
  | 126 => ⟨S64x512, .f32⟩
  | 127 => ⟨S1x64x512, .f32⟩
  | _ => ⟨S512, .f32⟩

abbrev hbmTy0_3 (i : Nat) : BufTy := match i % 128 with
  | 0 => ⟨S_, .f32⟩
  | 1 => ⟨S1x64x512, .f32⟩
  | 2 => ⟨S1x64x512, .f32⟩
  | _ => ⟨S512, .f32⟩

abbrev hbmTy (i : Nat) : BufTy := match i / 128 with
  | 0 => hbmTy0_0 i
  | 1 => hbmTy0_1 i
  | 2 => hbmTy0_2 i
  | 3 => hbmTy0_3 i
  | _ => ⟨S512, .f32⟩

abbrev bufTy : (tb : Table) → Fin (tcTables nBuf tb) → BufTy
  | .hbm, ⟨i, _⟩ => hbmTy i
  | _, _ => ⟨S512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_call0_v0 : Ref sig .tc := ⟨.hbm, 41, rfl⟩
abbrev main_call0_c : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_c_0 : Ref sig .tc := ⟨.hbm, 47, rfl⟩
abbrev main_call0_v5 : Ref sig .tc := ⟨.hbm, 48, rfl⟩
abbrev main_v18 : Ref sig .tc := ⟨.hbm, 49, rfl⟩
abbrev main_cst : Ref sig .tc := ⟨.hbm, 50, rfl⟩
abbrev main_cst_0 : Ref sig .tc := ⟨.hbm, 51, rfl⟩
abbrev main_call1_v0 : Ref sig .tc := ⟨.hbm, 52, rfl⟩
abbrev main_call1_v1 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_cst_1 : Ref sig .tc := ⟨.hbm, 60, rfl⟩
abbrev main_v25 : Ref sig .tc := ⟨.hbm, 61, rfl⟩
abbrev main_v26 : Ref sig .tc := ⟨.hbm, 62, rfl⟩
abbrev main_cst_2 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst_3 : Ref sig .tc := ⟨.hbm, 69, rfl⟩
abbrev main_v32 : Ref sig .tc := ⟨.hbm, 70, rfl⟩
abbrev main_v33 : Ref sig .tc := ⟨.hbm, 71, rfl⟩
abbrev main_cst_4 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_cst_5 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_6 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_7 : Ref sig .tc := ⟨.hbm, 114, rfl⟩
abbrev main_v73 : Ref sig .tc := ⟨.hbm, 115, rfl⟩
abbrev main_cst_8 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_9 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_10 : Ref sig .tc := ⟨.hbm, 144, rfl⟩
abbrev main_v100 : Ref sig .tc := ⟨.hbm, 145, rfl⟩
abbrev main_v101 : Ref sig .tc := ⟨.hbm, 146, rfl⟩
abbrev main_cst_11 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_cst_12 : Ref sig .tc := ⟨.hbm, 153, rfl⟩
abbrev main_v107 : Ref sig .tc := ⟨.hbm, 154, rfl⟩
abbrev main_v108 : Ref sig .tc := ⟨.hbm, 155, rfl⟩
abbrev main_cst_13 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_cst_14 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_cst_15 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_cst_16 : Ref sig .tc := ⟨.hbm, 186, rfl⟩
abbrev main_v136 : Ref sig .tc := ⟨.hbm, 187, rfl⟩
abbrev main_v137 : Ref sig .tc := ⟨.hbm, 188, rfl⟩
abbrev main_cst_17 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_cst_18 : Ref sig .tc := ⟨.hbm, 206, rfl⟩
abbrev main_v154 : Ref sig .tc := ⟨.hbm, 207, rfl⟩
abbrev main_v155 : Ref sig .tc := ⟨.hbm, 208, rfl⟩
abbrev main_cst_19 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_cst_20 : Ref sig .tc := ⟨.hbm, 215, rfl⟩
abbrev main_v161 : Ref sig .tc := ⟨.hbm, 216, rfl⟩
abbrev main_v162 : Ref sig .tc := ⟨.hbm, 217, rfl⟩
abbrev main_cst_21 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_cst_22 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_cst_23 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_cst_24 : Ref sig .tc := ⟨.hbm, 260, rfl⟩
abbrev main_v202 : Ref sig .tc := ⟨.hbm, 261, rfl⟩
abbrev main_cst_25 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_cst_26 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_v223 : Ref sig .tc := ⟨.hbm, 284, rfl⟩
abbrev main_v224 : Ref sig .tc := ⟨.hbm, 285, rfl⟩
abbrev main_v225 : Ref sig .tc := ⟨.hbm, 286, rfl⟩
abbrev main_v226 : Ref sig .tc := ⟨.hbm, 287, rfl⟩
abbrev main_v227 : Ref sig .tc := ⟨.hbm, 288, rfl⟩
abbrev main_v228 : Ref sig .tc := ⟨.hbm, 289, rfl⟩
abbrev main_cst_27 : Ref sig .tc := ⟨.hbm, 290, rfl⟩
abbrev main_v229 : Ref sig .tc := ⟨.hbm, 291, rfl⟩
abbrev main_v230 : Ref sig .tc := ⟨.hbm, 292, rfl⟩
abbrev main_cst_28 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_cst_29 : Ref sig .tc := ⟨.hbm, 299, rfl⟩
abbrev main_v236 : Ref sig .tc := ⟨.hbm, 300, rfl⟩
abbrev main_v237 : Ref sig .tc := ⟨.hbm, 301, rfl⟩
abbrev main_cst_30 : Ref sig .tc := ⟨.hbm, 302, rfl⟩
abbrev main_v238 : Ref sig .tc := ⟨.hbm, 303, rfl⟩
abbrev main_v239 : Ref sig .tc := ⟨.hbm, 304, rfl⟩
abbrev main_v240 : Ref sig .tc := ⟨.hbm, 305, rfl⟩
abbrev main_v241 : Ref sig .tc := ⟨.hbm, 306, rfl⟩
abbrev main_cst_31 : Ref sig .tc := ⟨.hbm, 307, rfl⟩
abbrev main_v242 : Ref sig .tc := ⟨.hbm, 308, rfl⟩
abbrev main_v243 : Ref sig .tc := ⟨.hbm, 309, rfl⟩
abbrev main_v244 : Ref sig .tc := ⟨.hbm, 310, rfl⟩
abbrev main_v245 : Ref sig .tc := ⟨.hbm, 311, rfl⟩
abbrev main_v246 : Ref sig .tc := ⟨.hbm, 312, rfl⟩
abbrev main_v247 : Ref sig .tc := ⟨.hbm, 313, rfl⟩
abbrev main_v248 : Ref sig .tc := ⟨.hbm, 314, rfl⟩
abbrev main_v249 : Ref sig .tc := ⟨.hbm, 315, rfl⟩
abbrev main_v250 : Ref sig .tc := ⟨.hbm, 316, rfl⟩
abbrev main_v251 : Ref sig .tc := ⟨.hbm, 317, rfl⟩
abbrev main_v252 : Ref sig .tc := ⟨.hbm, 318, rfl⟩
abbrev main_v253 : Ref sig .tc := ⟨.hbm, 319, rfl⟩
abbrev main_v254 : Ref sig .tc := ⟨.hbm, 320, rfl⟩
abbrev main_v255 : Ref sig .tc := ⟨.hbm, 321, rfl⟩
abbrev main_v256 : Ref sig .tc := ⟨.hbm, 322, rfl⟩
abbrev main_v257 : Ref sig .tc := ⟨.hbm, 323, rfl⟩
abbrev main_v258 : Ref sig .tc := ⟨.hbm, 324, rfl⟩
abbrev main_v259 : Ref sig .tc := ⟨.hbm, 325, rfl⟩
abbrev main_v260 : Ref sig .tc := ⟨.hbm, 326, rfl⟩
abbrev main_cst_32 : Ref sig .tc := ⟨.hbm, 327, rfl⟩
abbrev main_v261 : Ref sig .tc := ⟨.hbm, 328, rfl⟩
abbrev main_v262 : Ref sig .tc := ⟨.hbm, 329, rfl⟩
abbrev main_v263 : Ref sig .tc := ⟨.hbm, 330, rfl⟩
abbrev main_v264 : Ref sig .tc := ⟨.hbm, 331, rfl⟩
abbrev main_cst_33 : Ref sig .tc := ⟨.hbm, 332, rfl⟩
abbrev main_v265 : Ref sig .tc := ⟨.hbm, 333, rfl⟩
abbrev main_v266 : Ref sig .tc := ⟨.hbm, 334, rfl⟩
abbrev main_cst_34 : Ref sig .tc := ⟨.hbm, 335, rfl⟩
abbrev main_v267 : Ref sig .tc := ⟨.hbm, 336, rfl⟩
abbrev main_v268 : Ref sig .tc := ⟨.hbm, 337, rfl⟩
abbrev main_v269 : Ref sig .tc := ⟨.hbm, 338, rfl⟩
abbrev main_v270 : Ref sig .tc := ⟨.hbm, 339, rfl⟩
abbrev main_v271 : Ref sig .tc := ⟨.hbm, 340, rfl⟩
abbrev main_v272 : Ref sig .tc := ⟨.hbm, 341, rfl⟩
abbrev main_v273 : Ref sig .tc := ⟨.hbm, 342, rfl⟩
abbrev main_v274 : Ref sig .tc := ⟨.hbm, 343, rfl⟩
abbrev main_v275 : Ref sig .tc := ⟨.hbm, 344, rfl⟩
abbrev main_v276 : Ref sig .tc := ⟨.hbm, 345, rfl⟩
abbrev main_v277 : Ref sig .tc := ⟨.hbm, 346, rfl⟩
abbrev main_v278 : Ref sig .tc := ⟨.hbm, 347, rfl⟩
abbrev main_cst_35 : Ref sig .tc := ⟨.hbm, 348, rfl⟩
abbrev main_v279 : Ref sig .tc := ⟨.hbm, 349, rfl⟩
abbrev main_v280 : Ref sig .tc := ⟨.hbm, 350, rfl⟩
abbrev main_cst_36 : Ref sig .tc := ⟨.hbm, 351, rfl⟩
abbrev main_v281 : Ref sig .tc := ⟨.hbm, 352, rfl⟩
abbrev main_v282 : Ref sig .tc := ⟨.hbm, 353, rfl⟩
abbrev main_v283 : Ref sig .tc := ⟨.hbm, 354, rfl⟩
abbrev main_v284 : Ref sig .tc := ⟨.hbm, 355, rfl⟩
abbrev main_v285 : Ref sig .tc := ⟨.hbm, 356, rfl⟩
abbrev main_cst_37 : Ref sig .tc := ⟨.hbm, 357, rfl⟩
abbrev main_v286 : Ref sig .tc := ⟨.hbm, 358, rfl⟩
abbrev main_v287 : Ref sig .tc := ⟨.hbm, 359, rfl⟩
abbrev main_cst_38 : Ref sig .tc := ⟨.hbm, 360, rfl⟩
abbrev main_v288 : Ref sig .tc := ⟨.hbm, 361, rfl⟩
abbrev main_v289 : Ref sig .tc := ⟨.hbm, 362, rfl⟩
abbrev main_v290 : Ref sig .tc := ⟨.hbm, 363, rfl⟩
abbrev main_v291 : Ref sig .tc := ⟨.hbm, 364, rfl⟩
abbrev main_cst_39 : Ref sig .tc := ⟨.hbm, 365, rfl⟩
abbrev main_v292 : Ref sig .tc := ⟨.hbm, 366, rfl⟩
abbrev main_v293 : Ref sig .tc := ⟨.hbm, 367, rfl⟩
abbrev main_v294 : Ref sig .tc := ⟨.hbm, 368, rfl⟩
abbrev main_v295 : Ref sig .tc := ⟨.hbm, 369, rfl⟩
abbrev main_v296 : Ref sig .tc := ⟨.hbm, 370, rfl⟩
abbrev main_v297 : Ref sig .tc := ⟨.hbm, 371, rfl⟩
abbrev main_v298 : Ref sig .tc := ⟨.hbm, 372, rfl⟩
abbrev main_v299 : Ref sig .tc := ⟨.hbm, 373, rfl⟩
abbrev main_v300 : Ref sig .tc := ⟨.hbm, 374, rfl⟩
abbrev main_v301 : Ref sig .tc := ⟨.hbm, 375, rfl⟩
abbrev main_v302 : Ref sig .tc := ⟨.hbm, 376, rfl⟩
abbrev main_v303 : Ref sig .tc := ⟨.hbm, 377, rfl⟩
abbrev main_v304 : Ref sig .tc := ⟨.hbm, 378, rfl⟩
abbrev main_v305 : Ref sig .tc := ⟨.hbm, 379, rfl⟩
abbrev main_v306 : Ref sig .tc := ⟨.hbm, 380, rfl⟩
abbrev main_cst_40 : Ref sig .tc := ⟨.hbm, 381, rfl⟩
abbrev main_v307 : Ref sig .tc := ⟨.hbm, 382, rfl⟩
abbrev main_v308 : Ref sig .tc := ⟨.hbm, 383, rfl⟩
abbrev main_cst_41 : Ref sig .tc := ⟨.hbm, 384, rfl⟩
abbrev main_v309 : Ref sig .tc := ⟨.hbm, 385, rfl⟩
abbrev main_v310 : Ref sig .tc := ⟨.hbm, 386, rfl⟩

abbrev nD : Nat := 1
abbrev τ : Topo := Topo.v7x

variable {F : FTy → Type} [FloatOps F]
-- ==== Proof.RowMath.lean ====
/-
The real-number mathematics of one row of the text tower, and the extended-real expressions that both
programs compute read as real numbers.
-/
module

public import Idealize.ShloMosaic.Lib.Pointwise

@[expose] public section

set_option maxRecDepth 16384

noncomputable section

namespace Cert.Rows

open Idealize.ShloMosaic

/-! ## Literals -/

/-- The small number added to a variance: the single-precision word nearest one hundred-thousandth. -/
def eps : ℝ := 10995116 / 2 ^ 40

/-- The slope of the sigmoid in the activation: the single-precision word nearest 1.702. -/
def slope : ℝ := 14277411 / 2 ^ 23

theorem eps_pos : 0 < eps := by unfold eps; norm_num

theorem lit_512 : Ideal.ofBits .f32 0x44000000#32 = ((512 : ℝ) : EReal) := by
  simp [Ideal.ofBits, Ideal.ieee, -EReal.coe_mul]; norm_num

theorem lit_eps : Ideal.ofBits .f32 0x3727C5AC#32 = ((eps : ℝ) : EReal) := by
  simp [Ideal.ofBits, Ideal.ieee, -EReal.coe_mul]; norm_num [eps]

theorem lit_eighth : Ideal.ofBits .f32 0x3E000000#32 = ((1 / 8 : ℝ) : EReal) := by
  simp [Ideal.ofBits, Ideal.ieee, -EReal.coe_mul]; norm_num

theorem lit_quarter : Ideal.ofBits .f32 0x3E800000#32 = ((1 / 4 : ℝ) : EReal) := by
  simp [Ideal.ofBits, Ideal.ieee, -EReal.coe_mul]; norm_num

theorem lit_four : Ideal.ofBits .f32 0x40800000#32 = ((4 : ℝ) : EReal) := by
  simp [Ideal.ofBits, Ideal.ieee, -EReal.coe_mul]; norm_num

theorem lit_one : Ideal.ofBits .f32 0x3F800000#32 = ((1 : ℝ) : EReal) := by
  simp [Ideal.ofBits, Ideal.ieee, -EReal.coe_mul]; norm_num

theorem lit_slope : Ideal.ofBits .f32 0x3FD9DB23#32 = ((slope : ℝ) : EReal) := by
  simp [Ideal.ofBits, Ideal.ieee, -EReal.coe_mul]; norm_num [slope]

theorem lit_neg_slope : Ideal.ofBits .f32 0xBFD9DB23#32 = ((-slope : ℝ) : EReal) := by
  simp [Ideal.ofBits, Ideal.ieee, -EReal.coe_mul]; norm_num [slope]

theorem lit_bot : Ideal.ofBits .f32 0xFF800000#32 = (⊥ : EReal) := by
  simp [Ideal.ofBits, Ideal.ieee]

/-! ## Extended-real operations at real numbers -/

/-- A finite sum of reals, taken in the extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of reals by a nonzero real. -/
theorem div_real (x : ℝ) {y : ℝ} (h : y ≠ 0) : Ideal.div (x : EReal) (y : EReal) = ((x / y : ℝ) : EReal) := by
  rw [Ideal.div_coe h, ← EReal.coe_mul, mul_one_div]

/-- The reciprocal root of a positive real. -/
theorem rsqrt_real {x : ℝ} (h : 0 < x) : Ideal.rsqrt (x : EReal) = (((Real.sqrt x)⁻¹ : ℝ) : EReal) := by
  rw [Ideal.rsqrt_coe, if_neg (not_lt.mpr h.le), if_neg h.ne']

/-- The root of a positive real. -/
theorem sqrt_real {x : ℝ} (h : 0 < x) : Ideal.sqrt (x : EReal) = ((Real.sqrt x : ℝ) : EReal) := by
  rw [Ideal.sqrt_coe, if_neg (not_lt.mpr h.le)]

/-! ## Layer normalisation of a row -/

/-- The mean of a row. -/
def mean (x : Fin 512 → ℝ) : ℝ := (∑ k, x k) / 512

/-- The variance of a row. -/
def var (x : Fin 512 → ℝ) : ℝ := (∑ k, (x k - mean x) * (x k - mean x)) / 512

theorem var_eps_pos (x : Fin 512 → ℝ) : 0 < var x + eps := by
  have : 0 ≤ var x := div_nonneg (Finset.sum_nonneg fun k _ => mul_self_nonneg _) (by norm_num)
  have := eps_pos
  linarith

/-- A row normalised to mean zero and variance one, scaled by `s` and shifted by `b`. -/
def lnR (x s b : Fin 512 → ℝ) : Fin 512 → ℝ := fun c =>
  (x c - mean x) * (Real.sqrt (var x + eps))⁻¹ * s c + b c

theorem mean_coe (x : Fin 512 → ℝ) :
    Ideal.div (∑ k, (x k : EReal)) (Ideal.ofBits .f32 0x44000000#32) = ((mean x : ℝ) : EReal) := by
  rw [lit_512, ← coe_sum, div_real _ (by norm_num)]; rfl

theorem var_coe (x : Fin 512 → ℝ) :
    Ideal.div (∑ k, ((x k : EReal) - ((mean x : ℝ) : EReal)) * ((x k : EReal) - ((mean x : ℝ) : EReal)))
      (Ideal.ofBits .f32 0x44000000#32) + Ideal.ofBits .f32 0x3727C5AC#32 = ((var x + eps : ℝ) : EReal) := by
  rw [lit_512, lit_eps]
  simp only [← EReal.coe_sub, ← EReal.coe_mul]
  rw [← coe_sum, div_real _ (by norm_num), ← EReal.coe_add]; rfl

/-- Layer normalisation by the reciprocal root, at real numbers. -/
theorem ln_rsqrt_coe (x : Fin 512 → ℝ) (s b : Fin 512 → ℝ) (c : Fin 512) :
    ((x c : EReal) - Ideal.div (∑ k, (x k : EReal)) (Ideal.ofBits .f32 0x44000000#32)) *
        Ideal.rsqrt (Ideal.div
          (∑ k, ((x k : EReal) - Ideal.div (∑ k, (x k : EReal)) (Ideal.ofBits .f32 0x44000000#32)) *
            ((x k : EReal) - Ideal.div (∑ k, (x k : EReal)) (Ideal.ofBits .f32 0x44000000#32)))
          (Ideal.ofBits .f32 0x44000000#32) + Ideal.ofBits .f32 0x3727C5AC#32) *
        (s c : EReal) + (b c : EReal) = ((lnR x s b c : ℝ) : EReal) := by
  simp only [mean_coe, var_coe]
  rw [rsqrt_real (var_eps_pos x)]
  simp only [← EReal.coe_sub, ← EReal.coe_mul, ← EReal.coe_add]; rfl

/-- Layer normalisation by a quotient with the root, at real numbers. -/
theorem ln_sqrt_coe (x : Fin 512 → ℝ) (s b : Fin 512 → ℝ) (c : Fin 512) :
    Ideal.div ((x c : EReal) - Ideal.div (∑ k, (x k : EReal)) (Ideal.ofBits .f32 0x44000000#32))
        (Ideal.sqrt (Ideal.div
          (∑ k, ((x k : EReal) - Ideal.div (∑ k, (x k : EReal)) (Ideal.ofBits .f32 0x44000000#32)) *
            ((x k : EReal) - Ideal.div (∑ k, (x k : EReal)) (Ideal.ofBits .f32 0x44000000#32)))
          (Ideal.ofBits .f32 0x44000000#32) + Ideal.ofBits .f32 0x3727C5AC#32)) *
        (s c : EReal) + (b c : EReal) = ((lnR x s b c : ℝ) : EReal) := by
  simp only [mean_coe, var_coe]
  rw [sqrt_real (var_eps_pos x), ← EReal.coe_sub, div_real _ (Real.sqrt_pos.mpr (var_eps_pos x)).ne']
  simp only [← EReal.coe_mul, ← EReal.coe_add, lnR, div_eq_mul_inv]

/-! ## Products with a matrix and the activation -/

/-- A row times a matrix. -/
def lin {a b : ℕ} (W : Fin a → Fin b → ℝ) (x : Fin a → ℝ) : Fin b → ℝ := fun j => ∑ k, x k * W k j

theorem lin_coe {a b : ℕ} (W : Fin a → Fin b → ℝ) (x : Fin a → ℝ) (j : Fin b) :
    ∑ k, (x k : EReal) * (W k j : EReal) = ((lin W x j : ℝ) : EReal) := by
  simp only [← EReal.coe_mul]; rw [← coe_sum]; rfl

/-- The activation: a number times the sigmoid of `slope` times it. -/
def gelu (g : ℝ) : ℝ := g * (1 / (1 + Real.exp (-(slope * g))))

theorem gelu_coe (g : ℝ) :
    (g : EReal) * Ideal.div (1)
      (1 + Ideal.exp (Ideal.ofBits .f32 0xBFD9DB23#32 * (g : EReal))) =
      ((gelu g : ℝ) : EReal) := by
  rw [← EReal.coe_one, lit_neg_slope, ← EReal.coe_mul, Ideal.exp_coe, ← EReal.coe_add,
    div_real _ (by positivity), ← EReal.coe_mul, gelu, neg_mul]

theorem gelu_coe' (g : ℝ) :
    (g : EReal) * Ideal.div (1)
      (1 + Ideal.exp (-(Ideal.ofBits .f32 0x3FD9DB23#32 * (g : EReal)))) =
      ((gelu g : ℝ) : EReal) := by
  rw [← EReal.coe_one, lit_slope, ← EReal.coe_mul, ← EReal.coe_neg, Ideal.exp_coe, ← EReal.coe_add,
    div_real _ (by positivity), ← EReal.coe_mul, gelu]

/-! ## Weighted averages with a mask -/

section Attention

variable {ι : Type*} [Fintype ι] (al : ι → Prop) [DecidablePred al]

/-- The average of `v` with weights `exp s` over the allowed places. -/
def avg (s v : ι → ℝ) : ℝ :=
  (∑ i ∈ Finset.univ.filter al, Real.exp (s i) * v i) / ∑ i ∈ Finset.univ.filter al, Real.exp (s i)

theorem weights_pos (s : ι → ℝ) (hne : ∃ i, al i) : 0 < ∑ i ∈ Finset.univ.filter al, Real.exp (s i) :=
  Finset.sum_pos (fun _ _ => Real.exp_pos _) (by obtain ⟨i, hi⟩ := hne; exact ⟨i, by simpa using hi⟩)

theorem exp_mask (s : ℝ) (p : Prop) [Decidable p] :
    Ideal.exp ((s : EReal) + if p then 0 else ⊥) = ((if p then Real.exp s else 0 : ℝ) : EReal) := by
  split_ifs <;> simp

/-- Exponentials of masked scores, weighted and divided by their sum: the average over the allowed places. -/
theorem avg_coe (s v : ι → ℝ) (hne : ∃ i, al i) :
    Ideal.div (∑ i, Ideal.exp ((s i : EReal) + if al i then 0 else ⊥) * (v i : EReal))
      (∑ i, Ideal.exp ((s i : EReal) + if al i then 0 else ⊥)) = ((avg al s v : ℝ) : EReal) := by
  simp only [exp_mask, ← EReal.coe_mul]
  rw [← coe_sum, ← coe_sum, avg, Finset.sum_filter, Finset.sum_filter, ← Finset.sum_filter al (fun i => Real.exp (s i)),
    div_real _ (weights_pos al s hne).ne']
  simp only [ite_mul, zero_mul]

theorem fold_max_coe (f : ι → EReal) (hne : ∃ i, al i) (s : ι → ℝ)
    (hf : ∀ i, f i = (s i : EReal) + if al i then 0 else ⊥) :
    ∃ M : ℝ, Finset.univ.fold max ⊥ f = (M : EReal) := by
  have h : Finset.univ.fold max ⊥ f = Finset.univ.sup f := rfl
  rw [h]
  obtain ⟨i₀, h₀⟩ := hne
  have hlb : (s i₀ : EReal) ≤ Finset.univ.sup f := by
    have := Finset.le_sup (f := f) (Finset.mem_univ i₀)
    rw [hf, if_pos h₀, add_zero] at this
    exact this
  have hlt : Finset.univ.sup f < ⊤ := by
    rw [Finset.sup_lt_iff (by exact bot_lt_top)]
    intro i _
    rw [hf]
    split_ifs
    · rw [add_zero]; exact EReal.coe_lt_top _
    · rw [EReal.add_bot]; exact bot_lt_top
  refine ⟨(Finset.univ.sup f).toReal, (EReal.coe_toReal hlt.ne ?_).symm⟩
  intro hb
  rw [hb] at hlb
  exact absurd hlb (not_le.mpr (EReal.bot_lt_coe _))

/-- The same average when the largest score is first subtracted and each weight divided by the sum. -/
theorem avg_shift_coe (s v : ι → ℝ) (hne : ∃ i, al i) (M : ℝ) :
    ∑ i, Ideal.div (Ideal.exp ((s i : EReal) + (if al i then 0 else ⊥) - (M : EReal)))
        (∑ i, Ideal.exp ((s i : EReal) + (if al i then 0 else ⊥) - (M : EReal))) * (v i : EReal) =
      ((avg al s v : ℝ) : EReal) := by
  have e : ∀ i, Ideal.exp ((s i : EReal) + (if al i then 0 else ⊥) - (M : EReal)) =
      ((if al i then Real.exp (s i - M) else 0 : ℝ) : EReal) := by
    intro i
    split_ifs
    · rw [add_zero, ← EReal.coe_sub, Ideal.exp_coe]
    · rw [EReal.add_bot, EReal.bot_sub, Ideal.exp_bot, EReal.coe_zero]
  have hpos := weights_pos al (fun i => s i - M) hne
  simp only [e]
  rw [← coe_sum, ← Finset.sum_filter]
  simp only [div_real _ hpos.ne', ← EReal.coe_mul]
  rw [← coe_sum, EReal.coe_eq_coe_iff, avg]
  have h1 : ∀ i, Real.exp (s i - M) = Real.exp (s i) * Real.exp (-M) := fun i => by
    rw [← Real.exp_add, sub_eq_add_neg]
  have h2 : ∀ i, (if al i then Real.exp (s i - M) else 0) /
      (∑ i ∈ Finset.univ.filter al, Real.exp (s i - M)) * v i =
      (if al i then Real.exp (s i) * v i else 0) / ∑ i ∈ Finset.univ.filter al, Real.exp (s i) := by
    intro i
    simp only [h1, ← Finset.sum_mul]
    have := (weights_pos al s hne).ne'
    have := (Real.exp_pos (-M)).ne'
    split_ifs
    · field_simp
    · simp
  rw [Finset.sum_congr rfl fun i _ => h2 i, ← Finset.sum_div, ← Finset.sum_filter]

end Attention

/-! ## One layer of the tower -/

/-- One layer's weights. -/
structure Layer where
  s1 : Fin 512 → ℝ
  b1 : Fin 512 → ℝ
  Wq : Fin 512 → Fin 1536 → ℝ
  bq : Fin 1536 → ℝ
  Wo : Fin 512 → Fin 512 → ℝ
  bo : Fin 512 → ℝ
  s2 : Fin 512 → ℝ
  b2 : Fin 512 → ℝ
  W1 : Fin 512 → Fin 2048 → ℝ
  c1 : Fin 2048 → ℝ
  W2 : Fin 2048 → Fin 512 → ℝ
  c2 : Fin 512 → ℝ

/-- The query, key and value rows of a row. -/
def qkv (P : Layer) (x : Fin 512 → ℝ) : Fin 1536 → ℝ := fun j => lin P.Wq (lnR x P.s1 P.b1) j + P.bq j

/-- Head `h`'s score of a query row against a key row. -/
def score (h : Fin 8) (q k : Fin 1536 → ℝ) : ℝ :=
  ∑ d : Fin 64, q ⟨64 * h + d, by omega⟩ * (1 / 8) * k ⟨512 + 64 * h + d, by omega⟩

/-- One coordinate of the heads' outputs, side by side. -/
def attn {ι : Type*} [Fintype ι] (al : ι → Prop) [DecidablePred al] (q : Fin 1536 → ℝ) (kv : ι → Fin 1536 → ℝ) :
    Fin 512 → ℝ := fun c =>
  avg al (fun i => score ⟨c / 64, by omega⟩ q (kv i)) (fun i => kv i ⟨1024 + c, by omega⟩)

/-- A row plus the projected heads. -/
def res (P : Layer) (x o : Fin 512 → ℝ) : Fin 512 → ℝ := fun c => x c + lin P.Wo o c + P.bo c

/-- The hidden row of the two-layer perceptron. -/
def hid (P : Layer) (x : Fin 512 → ℝ) : Fin 2048 → ℝ := fun j => gelu (lin P.W1 (lnR x P.s2 P.b2) j + P.c1 j)

/-- A row plus the perceptron's output. -/
def mlp (P : Layer) (x : Fin 512 → ℝ) : Fin 512 → ℝ := fun c => x c + lin P.W2 (hid P x) c + P.c2 c

/-- A row after one layer, from the row, its query and the rows it attends to. -/
def step {ι : Type*} [Fintype ι] (P : Layer) (al : ι → Prop) [DecidablePred al] (x : Fin 512 → ℝ)
    (kv : ι → Fin 1536 → ℝ) : Fin 512 → ℝ :=
  mlp P (res P x (attn al (qkv P x) kv))

/-! ## Arrays of real numbers -/

/-- A two-axis array whose entries are the reals `X`. -/
abbrev Re2 {a b : ℕ} (x : FVec Ideal ⟨2, ![a, b]⟩ .f32) (X : Fin a → Fin b → ℝ) : Prop :=
  ∀ r c, x (ix2 r c) = ((X r c : ℝ) : EReal)

/-- A three-axis array whose entries are the reals `X`. -/
abbrev Re3 {a b c : ℕ} (x : FVec Ideal ⟨3, ![a, b, c]⟩ .f32) (X : Fin a → Fin b → Fin c → ℝ) : Prop :=
  ∀ r k j, x (ix3 r k j) = ((X r k j : ℝ) : EReal)

end Cert.Rows
-- ==== Proof.KOps.lean ====
/-
The kernel's vector computations under names of their own, each read at an index.
-/
module

public import proofs.«01_k».proof.Proof.Gen.KernelIdeal.Skeleton
public import proofs.«01_k».proof.Proof.RowMath

@[expose] public section

set_option maxRecDepth 16384

noncomputable section

namespace Cert.KernelIdeal.Ops

open Idealize.ShloMosaic Cert.KernelIdeal Cert.KernelIdeal.Gen Cert.Rows

/-- Layer normalisation of `n` rows of 512. -/
def lnV {n : ℕ} (hr : (⟨2, ![n, 512]⟩ : Shape).Reduces [1] ⟨1, ![n]⟩)
    (hc : (⟨1, ![n]⟩ : Shape).ShapeCasts ⟨2, ![n, 1]⟩)
    (hb : (⟨2, ![n, 1]⟩ : Shape).Broadcasts ⟨2, ![n, 512]⟩)
    (hw : (⟨2, ![1, 512]⟩ : Shape).Broadcasts ⟨2, ![n, 512]⟩)
    (x : FVec Ideal ⟨2, ![n, 512]⟩ .f32) (s b : FVec Ideal ⟨2, ![1, 512]⟩ .f32) :
    FVec Ideal ⟨2, ![n, 512]⟩ .f32 :=
  let tot (y : FVec Ideal ⟨2, ![n, 512]⟩ .f32) : FVec Ideal ⟨2, ![n, 1]⟩ .f32 :=
    divf (shapeCast ⟨2, ![n, 1]⟩ (multiReduction .add [1] ⟨1, ![n]⟩ y 0x00000000#32 hr (.inl rfl) rfl) hc)
      (broadcast ⟨2, ![n, 1]⟩ (Scalar.ofBits (F := Ideal) .f32 0x44000000#32))
  let d := subf x (broadcastTo ⟨2, ![n, 512]⟩ (tot x) hb)
  let v := addf (tot (mulf d d)) (broadcast ⟨2, ![n, 1]⟩ (Scalar.ofBits (F := Ideal) .f32 0x3727C5AC#32))
  addf (mulf (mulf d (broadcastTo ⟨2, ![n, 512]⟩ (rsqrt v) hb)) (broadcastTo ⟨2, ![n, 512]⟩ s hw))
    (broadcastTo ⟨2, ![n, 512]⟩ b hw)

/-- Layer normalisation of the own rows. -/
def lnOwn := lnV reduces_S768x512_S768 shapeCasts_S768_S768x1 broadcasts_S768x1_S768x512 broadcasts_S1x512_S768x512
/-- Layer normalisation of the shared rows. -/
def lnSh := lnV reduces_S32x512_S32 shapeCasts_S32_S32x1 broadcasts_S32x1_S32x512 broadcasts_S1x512_S32x512

/-- A one-row array as the kernel spells it. -/
def rowV (v : FVec Ideal S1x512 .f32) : FVec Ideal S1x512 .f32 :=
  shapeCast S1x512 (shapeCast S512 v shapeCasts_S1x512_S512) shapeCasts_S512_S1x512

/-- The own rows times the query-key-value matrix, plus its bias, in eight groups of 96 rows. -/
def qkvOwn (h : FVec Ideal S768x512 .f32) (W : FVec Ideal S1x512x1536 .f32) (b : FVec Ideal S1x1536 .f32) :
    FVec Ideal S8x96x1536 .f32 :=
  shapeCast S8x96x1536
    (addf (matmul dot_S768x512_S512x1536_S768x1536_1_0_0_1_n_n none h
        (shapeCast S512x1536 W shapeCasts_S1x512x1536_S512x1536) (constant (F := Ideal) S768x1536 .f32 0x00000000#32))
      (broadcastTo S768x1536 (shapeCast S1x1536 (shapeCast S1536 b shapeCasts_S1x1536_S1536) shapeCasts_S1536_S1x1536)
        broadcasts_S1x1536_S768x1536)) shapeCasts_S768x1536_S8x96x1536

/-- The shared rows times the query-key-value matrix, plus its bias. -/
def qkvSh (h : FVec Ideal S32x512 .f32) (W : FVec Ideal S1x512x1536 .f32) (b : FVec Ideal S1x1536 .f32) :
    FVec Ideal S32x1536 .f32 :=
  addf (matmul dot_S32x512_S512x1536_S32x1536_1_0_0_1_n_n none h
      (shapeCast S512x1536 W shapeCasts_S1x512x1536_S512x1536) (constant (F := Ideal) S32x1536 .f32 0x00000000#32))
    (broadcastTo S32x1536 (shapeCast S1x1536 (shapeCast S1536 b shapeCasts_S1x1536_S1536) shapeCasts_S1536_S1x1536)
      broadcasts_S1x1536_S32x1536)

/-- Each group's keys: its template's eight shared rows, then its 96 own rows. -/
def kvOwn (qs : FVec Ideal S32x1536 .f32) (q : FVec Ideal S8x96x1536 .f32) : FVec Ideal S8x104x1536 .f32 :=
  concatenate S8x104x1536 1
    [⟨S8x8x1536, shapeCast S8x8x1536 (broadcastTo S4x2x8x1536
        (shapeCast S4x1x8x1536 (shapeCast S4x1x8x1536 qs shapeCasts_S32x1536_S4x1x8x1536)
          shapeCasts_S4x1x8x1536_S4x1x8x1536) broadcasts_S4x1x8x1536_S4x2x8x1536) shapeCasts_S4x2x8x1536_S8x8x1536⟩,
      ⟨S8x96x1536, q⟩] concatenates_S8x8x1536_S8x96x1536_S8x104x1536_d1

/-- One head over the groups, its queries, keys and values at the given columns. -/
def headOwn (oq ok ov : ℕ) (hq : S8x96x1536.Slices ![0, 0, oq] S8x96x64) (hk : S8x104x1536.Slices ![0, 0, ok] S8x104x64)
    (hv : S8x104x1536.Slices ![0, 0, ov] S8x104x64) (mask : FVec Ideal S1x96x104 .f32)
    (q : FVec Ideal S8x96x1536 .f32) (kv : FVec Ideal S8x104x1536 .f32) : FVec Ideal S768x64 .f32 :=
  let e := exp (addf (matmul dot_S8x96x64_S8x104x64_S8x96x104_2_2_1_1_0_0 none
      (mulf (extractStridedSlice S8x96x64 ![0, 0, oq] q hq)
        (broadcast S8x96x64 (Scalar.ofBits (F := Ideal) .f32 0x3E000000#32)))
      (extractStridedSlice S8x104x64 ![0, 0, ok] kv hk) (constant (F := Ideal) S8x96x104 .f32 0x00000000#32))
    (broadcastTo S8x96x104 mask broadcasts_S1x96x104_S8x96x104))
  shapeCast S768x64
    (divf (matmul dot_S8x96x104_S8x104x64_S8x96x64_2_1_1_2_0_0 none e
        (extractStridedSlice S8x104x64 ![0, 0, ov] kv hv) (constant (F := Ideal) S8x96x64 .f32 0x00000000#32))
      (broadcastTo S8x96x64 (shapeCast S8x96x1
        (multiReduction .add [2] S8x96 e 0x00000000#32 reduces_S8x96x104_S8x96 (.inl rfl) rfl) shapeCasts_S8x96_S8x96x1)
        broadcasts_S8x96x1_S8x96x64)) shapeCasts_S8x96x64_S768x64

/-- One head over the shared rows. -/
def headSh (oq ok ov : ℕ) (hq : S32x1536.Slices ![0, oq] S32x64) (hk : S32x1536.Slices ![0, ok] S32x64)
    (hv : S32x1536.Slices ![0, ov] S32x64) (mask : FVec Ideal S32x32 .f32) (q : FVec Ideal S32x1536 .f32) :
    FVec Ideal S32x64 .f32 :=
  let e := exp (addf (matmul dot_S32x64_S32x64_S32x32_1_1_0_0_n_n none
      (mulf (extractStridedSlice S32x64 ![0, oq] q hq) (broadcast S32x64 (Scalar.ofBits (F := Ideal) .f32 0x3E000000#32)))
      (extractStridedSlice S32x64 ![0, ok] q hk) (constant (F := Ideal) S32x32 .f32 0x00000000#32)) mask)
  divf (matmul dot_S32x32_S32x64_S32x64_1_0_0_1_n_n none e
      (extractStridedSlice S32x64 ![0, ov] q hv) (constant (F := Ideal) S32x64 .f32 0x00000000#32))
    (broadcastTo S32x64 (shapeCast S32x1
      (multiReduction .add [1] S32 e 0x00000000#32 reduces_S32x32_S32 (.inl rfl) rfl) shapeCasts_S32_S32x1)
      broadcasts_S32x1_S32x64)

/-- The column at which head `h`'s slice of a third of the query-key-value row starts. -/
theorem sliceOwnQ (h : Fin 8) (n : ℕ) (hn : n ≤ 1024) : S8x96x1536.Slices ![0, 0, n + 64 * h.val] S8x96x64 := by
  refine ⟨rfl, fun a => ?_⟩
  have := h.isLt
  match a with
  | ⟨0, _⟩ => show 0 + 8 ≤ 8; omega
  | ⟨1, _⟩ => show 0 + 96 ≤ 96; omega
  | ⟨2, _⟩ => show n + 64 * h.val + 64 ≤ 1536; omega
theorem sliceOwnK (h : Fin 8) (n : ℕ) (hn : n ≤ 1024) : S8x104x1536.Slices ![0, 0, n + 64 * h.val] S8x104x64 := by
  refine ⟨rfl, fun a => ?_⟩
  have := h.isLt
  match a with
  | ⟨0, _⟩ => show 0 + 8 ≤ 8; omega
  | ⟨1, _⟩ => show 0 + 104 ≤ 104; omega
  | ⟨2, _⟩ => show n + 64 * h.val + 64 ≤ 1536; omega
theorem sliceSh (h : Fin 8) (n : ℕ) (hn : n ≤ 1024) : S32x1536.Slices ![0, n + 64 * h.val] S32x64 := by
  refine ⟨rfl, fun a => ?_⟩
  have := h.isLt
  match a with
  | ⟨0, _⟩ => show 0 + 32 ≤ 32; omega
  | ⟨1, _⟩ => show n + 64 * h.val + 64 ≤ 1536; omega

/-- Head `h` over the groups. -/
def headOwnN (mask : FVec Ideal S1x96x104 .f32) (q : FVec Ideal S8x96x1536 .f32) (kv : FVec Ideal S8x104x1536 .f32)
    (h : Fin 8) : FVec Ideal S768x64 .f32 :=
  headOwn (0 + 64 * h.val) (512 + 64 * h.val) (1024 + 64 * h.val) (sliceOwnQ h 0 (by omega)) (sliceOwnK h 512 (by omega))
    (sliceOwnK h 1024 (by omega)) mask q kv

/-- Head `h` over the shared rows. -/
def headShN (mask : FVec Ideal S32x32 .f32) (q : FVec Ideal S32x1536 .f32) (h : Fin 8) : FVec Ideal S32x64 .f32 :=
  headSh (0 + 64 * h.val) (512 + 64 * h.val) (1024 + 64 * h.val) (sliceSh h 0 (by omega)) (sliceSh h 512 (by omega))
    (sliceSh h 1024 (by omega)) mask q

/-- The eight heads side by side, own rows. -/
def attOwn (mask : FVec Ideal S1x96x104 .f32) (q : FVec Ideal S8x96x1536 .f32) (kv : FVec Ideal S8x104x1536 .f32) :
    FVec Ideal S768x512 .f32 :=
  concatenate S768x512 1 (List.ofFn fun h => ⟨S768x64, headOwnN mask q kv h⟩)
    concatenates_S768x64_S768x64_S768x64_S768x64_S768x64_S768x64_S768x64_S768x64_S768x512_d1

/-- The eight heads side by side, shared rows. -/
def attSh (mask : FVec Ideal S32x32 .f32) (q : FVec Ideal S32x1536 .f32) : FVec Ideal S32x512 .f32 :=
  concatenate S32x512 1 (List.ofFn fun h => ⟨S32x64, headShN mask q h⟩)
    concatenates_S32x64_S32x64_S32x64_S32x64_S32x64_S32x64_S32x64_S32x64_S32x512_d1

/-- Own rows plus the projected heads. -/
def resOwn (x o : FVec Ideal S768x512 .f32) (W : FVec Ideal S1x512x512 .f32) (b : FVec Ideal S1x512 .f32) :
    FVec Ideal S768x512 .f32 :=
  addf (addf x (matmul dot_S768x512_S512x512_S768x512_1_0_0_1_n_n none o
      (shapeCast S512x512 W shapeCasts_S1x512x512_S512x512) (constant (F := Ideal) S768x512 .f32 0x00000000#32)))
    (broadcastTo S768x512 (rowV b) broadcasts_S1x512_S768x512)

/-- Shared rows plus the projected heads. -/
def resSh (x o : FVec Ideal S32x512 .f32) (W : FVec Ideal S1x512x512 .f32) (b : FVec Ideal S1x512 .f32) :
    FVec Ideal S32x512 .f32 :=
  addf (addf x (matmul dot_S32x512_S512x512_S32x512_1_0_0_1_n_n none o
      (shapeCast S512x512 W shapeCasts_S1x512x512_S512x512) (constant (F := Ideal) S32x512 .f32 0x00000000#32)))
    (broadcastTo S32x512 (rowV b) broadcasts_S1x512_S32x512)

/-- The activation, element by element. -/
def geluV {s : Shape} (g : FVec Ideal s .f32) : FVec Ideal s .f32 :=
  mulf g (divf (broadcast s (Scalar.ofBits (F := Ideal) .f32 0x3F800000#32))
    (addf (broadcast s (Scalar.ofBits (F := Ideal) .f32 0x3F800000#32))
      (exp (mulf (broadcast s (Scalar.ofBits (F := Ideal) .f32 0xBFD9DB23#32)) g))))

/-- The hidden rows, own. -/
def hidOwn (x : FVec Ideal S768x512 .f32) (s b : FVec Ideal S1x512 .f32) (W : FVec Ideal S1x512x2048 .f32)
    (c : FVec Ideal S1x2048 .f32) : FVec Ideal S768x2048 .f32 :=
  geluV (addf (matmul dot_S768x512_S512x2048_S768x2048_1_0_0_1_n_n none (lnOwn x (rowV s) (rowV b))
      (shapeCast S512x2048 W shapeCasts_S1x512x2048_S512x2048) (constant (F := Ideal) S768x2048 .f32 0x00000000#32))
    (broadcastTo S768x2048 (shapeCast S1x2048 (shapeCast S2048 c shapeCasts_S1x2048_S2048) shapeCasts_S2048_S1x2048)
      broadcasts_S1x2048_S768x2048))

/-- The hidden rows, shared. -/
def hidSh (x : FVec Ideal S32x512 .f32) (s b : FVec Ideal S1x512 .f32) (W : FVec Ideal S1x512x2048 .f32)
    (c : FVec Ideal S1x2048 .f32) : FVec Ideal S32x2048 .f32 :=
  geluV (addf (matmul dot_S32x512_S512x2048_S32x2048_1_0_0_1_n_n none (lnSh x (rowV s) (rowV b))
      (shapeCast S512x2048 W shapeCasts_S1x512x2048_S512x2048) (constant (F := Ideal) S32x2048 .f32 0x00000000#32))
    (broadcastTo S32x2048 (shapeCast S1x2048 (shapeCast S2048 c shapeCasts_S1x2048_S2048) shapeCasts_S2048_S1x2048)
      broadcasts_S1x2048_S32x2048))

/-- Own rows plus the perceptron's output. -/
def mlpOwn (x : FVec Ideal S768x512 .f32) (g : FVec Ideal S768x2048 .f32) (W : FVec Ideal S1x2048x512 .f32)
    (b : FVec Ideal S1x512 .f32) : FVec Ideal S768x512 .f32 :=
  addf (addf x (matmul dot_S768x2048_S2048x512_S768x512_1_0_0_1_n_n none g
      (shapeCast S2048x512 W shapeCasts_S1x2048x512_S2048x512) (constant (F := Ideal) S768x512 .f32 0x00000000#32)))
    (broadcastTo S768x512 (rowV b) broadcasts_S1x512_S768x512)

/-- Shared rows plus the perceptron's output. -/
def mlpSh (x : FVec Ideal S32x512 .f32) (g : FVec Ideal S32x2048 .f32) (W : FVec Ideal S1x2048x512 .f32)
    (b : FVec Ideal S1x512 .f32) : FVec Ideal S32x512 .f32 :=
  addf (addf x (matmul dot_S32x2048_S2048x512_S32x512_1_0_0_1_n_n none g
      (shapeCast S2048x512 W shapeCasts_S1x2048x512_S2048x512) (constant (F := Ideal) S32x512 .f32 0x00000000#32)))
    (broadcastTo S32x512 (rowV b) broadcasts_S1x512_S32x512)

/-- The final combination: the own rows picked and averaged by `g`, then the projection. -/
def headV (g : FVec Ideal S32x768 .f32) (x : FVec Ideal S768x512 .f32) (W : FVec Ideal S512x512 .f32) :
    FVec Ideal S1x32x512 .f32 :=
  shapeCast S1x32x512 (matmul dot_S32x512_S512x512_S32x512_1_0_0_1_n_n none
    (matmul dot_S32x768_S768x512_S32x512_1_0_0_1_n_n none g x (constant (F := Ideal) S32x512 .f32 0x00000000#32)) W
    (constant (F := Ideal) S32x512 .f32 0x00000000#32)) shapeCasts_S32x512_S1x32x512

end Cert.KernelIdeal.Ops
-- ==== Proof.KReal.lean ====
/-
The kernel's vector computations over arrays of real numbers: each is the real-number mathematics of its rows.
-/
module

public import proofs.«01_k».proof.Proof.KOps

@[expose] public section

set_option maxRecDepth 16384

noncomputable section

namespace Cert.KernelIdeal.Ops

open Idealize.ShloMosaic Cert.KernelIdeal Cert.KernelIdeal.Gen Cert.Rows

/-- A one-row array is the same reals. -/
theorem rowV_re {v : FVec Ideal S1x512 .f32} {V : Fin 1 → Fin 512 → ℝ} (hv : Re2 v V) : Re2 (rowV v) V := by
  intro r c
  pointwise [rowV]
  rw [hv, Subsingleton.elim r 0]

section Own

variable {x o : FVec Ideal S768x512 .f32} {X O : Fin 768 → Fin 512 → ℝ}

/-- Normalised rows are the reals' normalised rows. -/
theorem lnOwn_re {s b : FVec Ideal S1x512 .f32} {S B : Fin 1 → Fin 512 → ℝ} (hx : Re2 x X) (hs : Re2 s S)
    (hb : Re2 b B) : Re2 (lnOwn x s b) fun r => lnR (X r) (S 0) (B 0) := by
  intro r c
  pointwise [lnOwn, lnV]
  simp only [hx _ _, hs _ _, hb _ _]
  exact ln_rsqrt_coe (X r) (S 0) (B 0) c

/-- Residual rows are the reals' residual rows. -/
theorem resOwn_re {W : FVec Ideal S1x512x512 .f32} {b : FVec Ideal S1x512 .f32} (P : Layer) (hx : Re2 x X)
    (ho : Re2 o O) (hW : Re3 W fun _ => P.Wo) (hb : Re2 b fun _ => P.bo) :
    Re2 (resOwn x o W b) fun r => res P (X r) (O r) := by
  intro r c
  pointwise [resOwn, rowV]
  simp only [hx _ _, ho _ _, hW _ _ _, hb _ _, lin_coe, ← EReal.coe_add]
  rfl

/-- Hidden rows are the reals' hidden rows. -/
theorem hidOwn_re {s b : FVec Ideal S1x512 .f32} {W : FVec Ideal S1x512x2048 .f32} {c : FVec Ideal S1x2048 .f32}
    (P : Layer) (hx : Re2 x X) (hs : Re2 s fun _ => P.s2) (hb : Re2 b fun _ => P.b2) (hW : Re3 W fun _ => P.W1)
    (hc : Re2 c fun _ => P.c1) : Re2 (hidOwn x s b W c) fun r => hid P (X r) := by
  intro r j
  have hl := lnOwn_re hx (rowV_re hs) (rowV_re hb)
  pointwise [hidOwn, geluV]
  simp only [hl _ _, hW _ _ _, hc _ _, lin_coe, ← EReal.coe_add]
  exact gelu_coe _

/-- Rows after the perceptron are the reals' rows after it. -/
theorem mlpOwn_re {g : FVec Ideal S768x2048 .f32} {W : FVec Ideal S1x2048x512 .f32} {b : FVec Ideal S1x512 .f32}
    (P : Layer) (hx : Re2 x X) (hg : Re2 g fun r => hid P (X r)) (hW : Re3 W fun _ => P.W2) (hb : Re2 b fun _ => P.c2) :
    Re2 (mlpOwn x g W b) fun r => mlp P (X r) := by
  intro r c
  pointwise [mlpOwn, rowV]
  simp only [hx _ _, hg _ _, hW _ _ _, hb _ _, lin_coe, ← EReal.coe_add]
  rfl

end Own

section Sh

variable {x o : FVec Ideal S32x512 .f32} {X O : Fin 32 → Fin 512 → ℝ}

/-- Normalised rows are the reals' normalised rows. -/
theorem lnSh_re {s b : FVec Ideal S1x512 .f32} {S B : Fin 1 → Fin 512 → ℝ} (hx : Re2 x X) (hs : Re2 s S)
    (hb : Re2 b B) : Re2 (lnSh x s b) fun r => lnR (X r) (S 0) (B 0) := by
  intro r c
  pointwise [lnSh, lnV]
  simp only [hx _ _, hs _ _, hb _ _]
  exact ln_rsqrt_coe (X r) (S 0) (B 0) c

/-- Residual rows are the reals' residual rows. -/
theorem resSh_re {W : FVec Ideal S1x512x512 .f32} {b : FVec Ideal S1x512 .f32} (P : Layer) (hx : Re2 x X)
    (ho : Re2 o O) (hW : Re3 W fun _ => P.Wo) (hb : Re2 b fun _ => P.bo) :
    Re2 (resSh x o W b) fun r => res P (X r) (O r) := by
  intro r c
  pointwise [resSh, rowV]
  simp only [hx _ _, ho _ _, hW _ _ _, hb _ _, lin_coe, ← EReal.coe_add]
  rfl

/-- Hidden rows are the reals' hidden rows. -/
theorem hidSh_re {s b : FVec Ideal S1x512 .f32} {W : FVec Ideal S1x512x2048 .f32} {c : FVec Ideal S1x2048 .f32}
    (P : Layer) (hx : Re2 x X) (hs : Re2 s fun _ => P.s2) (hb : Re2 b fun _ => P.b2) (hW : Re3 W fun _ => P.W1)
    (hc : Re2 c fun _ => P.c1) : Re2 (hidSh x s b W c) fun r => hid P (X r) := by
  intro r j
  have hl := lnSh_re hx (rowV_re hs) (rowV_re hb)
  pointwise [hidSh, geluV]
  simp only [hl _ _, hW _ _ _, hc _ _, lin_coe, ← EReal.coe_add]
  exact gelu_coe _

/-- Rows after the perceptron are the reals' rows after it. -/
theorem mlpSh_re {g : FVec Ideal S32x2048 .f32} {W : FVec Ideal S1x2048x512 .f32} {b : FVec Ideal S1x512 .f32}
    (P : Layer) (hx : Re2 x X) (hg : Re2 g fun r => hid P (X r)) (hW : Re3 W fun _ => P.W2) (hb : Re2 b fun _ => P.c2) :
    Re2 (mlpSh x g W b) fun r => mlp P (X r) := by
  intro r c
  pointwise [mlpSh, rowV]
  simp only [hx _ _, hg _ _, hW _ _ _, hb _ _, lin_coe, ← EReal.coe_add]
  rfl

end Sh

/-- The shared query, key and value rows are the reals'. -/
theorem qkvSh_re {x : FVec Ideal S32x512 .f32} {X : Fin 32 → Fin 512 → ℝ} {s b : FVec Ideal S1x512 .f32}
    {W : FVec Ideal S1x512x1536 .f32} {bq : FVec Ideal S1x1536 .f32} (P : Layer) (hx : Re2 x X)
    (hs : Re2 s fun _ => P.s1) (hb : Re2 b fun _ => P.b1) (hW : Re3 W fun _ => P.Wq) (hq : Re2 bq fun _ => P.bq) :
    Re2 (qkvSh (lnSh x (rowV s) (rowV b)) W bq) fun r => qkv P (X r) := by
  intro r j
  have hl := lnSh_re hx (rowV_re hs) (rowV_re hb)
  pointwise [qkvSh]
  simp only [hl _ _, hW _ _ _, hq _ _, lin_coe, ← EReal.coe_add]
  rfl

/-- The own query, key and value rows, group by group, are the reals'. -/
theorem qkvOwn_re {x : FVec Ideal S768x512 .f32} {X : Fin 768 → Fin 512 → ℝ} {s b : FVec Ideal S1x512 .f32}
    {W : FVec Ideal S1x512x1536 .f32} {bq : FVec Ideal S1x1536 .f32} (P : Layer) (hx : Re2 x X)
    (hs : Re2 s fun _ => P.s1) (hb : Re2 b fun _ => P.b1) (hW : Re3 W fun _ => P.Wq) (hq : Re2 bq fun _ => P.bq) :
    Re3 (qkvOwn (lnOwn x (rowV s) (rowV b)) W bq) fun g r => qkv P (X ⟨g * 96 + r, by omega⟩) := by
  intro g r j
  have hl := lnOwn_re hx (rowV_re hs) (rowV_re hb)
  pointwise [qkvOwn]
  simp only [hl _ _, hW _ _ _, hq _ _, lin_coe, ← EReal.coe_add]
  rfl

/-- A group's keys: its template's shared rows, then its own rows. -/
def keys (S : Fin 32 → Fin 1536 → ℝ) (Q : Fin 8 → Fin 96 → Fin 1536 → ℝ) (g : Fin 8) (k : Fin 104) : Fin 1536 → ℝ :=
  if h : k.val < 8 then S ⟨g / 2 * 8 + k, by omega⟩ else Q g ⟨k - 8, by omega⟩

/-- The kernel's key array is the reals' keys. -/
theorem kvOwn_re {s : FVec Ideal S32x1536 .f32} {q : FVec Ideal S8x96x1536 .f32} {S : Fin 32 → Fin 1536 → ℝ}
    {Q : Fin 8 → Fin 96 → Fin 1536 → ℝ} (hs : Re2 s S) (hq : Re3 q Q) : Re3 (kvOwn s q) (keys S Q) := by
  intro g k j
  have : kvOwn s q (ix3 g k j) = if h : k.val < 8 then s (ix2 ⟨g / 2 * 8 + k, by omega⟩ j)
      else q (ix3 g ⟨k - 8, by omega⟩ j) := by pointwise [kvOwn]
  rw [this]
  unfold keys
  split_ifs
  · exact hs _ _
  · exact hq _ _ _

/-- One own head is the average of the values over the allowed keys. -/
theorem headOwnN_re {mask : FVec Ideal S1x96x104 .f32} {q : FVec Ideal S8x96x1536 .f32} {kv : FVec Ideal S8x104x1536 .f32}
    {Q : Fin 8 → Fin 96 → Fin 1536 → ℝ} {K : Fin 8 → Fin 104 → Fin 1536 → ℝ} (al : Fin 96 → Fin 104 → Prop)
    [∀ r, DecidablePred (al r)] (hne : ∀ r, ∃ k, al r k) (hm : ∀ r k, mask (ix3 0 r k) = if al r k then 0 else ⊥)
    (hq : Re3 q Q) (hk : Re3 kv K) (h : Fin 8) : Re2 (headOwnN mask q kv h) fun r c =>
      avg (al ⟨r % 96, by omega⟩)
        (fun k => score h (Q ⟨r / 96, by omega⟩ ⟨r % 96, by omega⟩) (K ⟨r / 96, by omega⟩ k))
        (fun k => K ⟨r / 96, by omega⟩ k ⟨1024 + 64 * h + c, by omega⟩) := by
  intro r c
  pointwise [headOwnN, headOwn]
  simp only [hq _ _ _, hk _ _ _, hm _ _, lit_eighth, ← EReal.coe_mul, ← coe_sum]
  exact avg_coe (al ⟨r % 96, by omega⟩) (fun k => score h (Q ⟨r / 96, by omega⟩ ⟨r % 96, by omega⟩) (K ⟨r / 96, by omega⟩ k))
    (fun k => K ⟨r / 96, by omega⟩ k ⟨1024 + 64 * h + c, by omega⟩) (hne _)

/-- One shared head is the average of the values over the allowed keys. -/
theorem headShN_re {mask : FVec Ideal S32x32 .f32} {q : FVec Ideal S32x1536 .f32} {Q : Fin 32 → Fin 1536 → ℝ}
    (al : Fin 32 → Fin 32 → Prop) [∀ r, DecidablePred (al r)] (hne : ∀ r, ∃ k, al r k)
    (hm : ∀ r k, mask (ix2 r k) = if al r k then 0 else ⊥) (hq : Re2 q Q) (h : Fin 8) :
    Re2 (headShN mask q h) fun r c =>
      avg (al r) (fun k => score h (Q r) (Q k)) (fun k => Q k ⟨1024 + 64 * h + c, by omega⟩) := by
  intro r c
  pointwise [headShN, headSh]
  simp only [hq _ _, hm _ _, lit_eighth, ← EReal.coe_mul, ← coe_sum]
  exact avg_coe (al r) (fun k => score h (Q r) (Q k)) (fun k => Q k ⟨1024 + 64 * h + c, by omega⟩) (hne _)

/-- The own heads side by side are the reals' attention. -/
theorem attOwn_re {mask : FVec Ideal S1x96x104 .f32} {q : FVec Ideal S8x96x1536 .f32} {kv : FVec Ideal S8x104x1536 .f32}
    {Q : Fin 8 → Fin 96 → Fin 1536 → ℝ} {K : Fin 8 → Fin 104 → Fin 1536 → ℝ} (al : Fin 96 → Fin 104 → Prop)
    [∀ r, DecidablePred (al r)] (hne : ∀ r, ∃ k, al r k) (hm : ∀ r k, mask (ix3 0 r k) = if al r k then 0 else ⊥)
    (hq : Re3 q Q) (hk : Re3 kv K) : Re2 (attOwn mask q kv) fun r =>
      attn (al ⟨r % 96, by omega⟩) (Q ⟨r / 96, by omega⟩ ⟨r % 96, by omega⟩) (K ⟨r / 96, by omega⟩) := by
  intro r c
  have hh := headOwnN_re al hne hm hq hk ⟨c / 64, by omega⟩ r ⟨c % 64, by omega⟩
  have e : 1024 + 64 * (c.val / 64) + c.val % 64 = 1024 + c.val := by omega
  simp only [e] at hh
  refine Eq.trans ?_ hh
  refine concatenate_ofFn_apply (t := S768x512) (s₁ := S768x64) 1 (headOwnN mask q kv) _ rfl 64 rfl (ix2 r c) _ rfl _ rfl fun b hb => ?_
  match b with
  | ⟨0, _⟩ => rfl
  | ⟨1, _⟩ => exact absurd rfl hb

/-- The shared heads side by side are the reals' attention. -/
theorem attSh_re {mask : FVec Ideal S32x32 .f32} {q : FVec Ideal S32x1536 .f32} {Q : Fin 32 → Fin 1536 → ℝ}
    (al : Fin 32 → Fin 32 → Prop) [∀ r, DecidablePred (al r)] (hne : ∀ r, ∃ k, al r k)
    (hm : ∀ r k, mask (ix2 r k) = if al r k then 0 else ⊥) (hq : Re2 q Q) :
    Re2 (attSh mask q) fun r => attn (al r) (Q r) Q := by
  intro r c
  have hh := headShN_re al hne hm hq ⟨c / 64, by omega⟩ r ⟨c % 64, by omega⟩
  have e : 1024 + 64 * (c.val / 64) + c.val % 64 = 1024 + c.val := by omega
  simp only [e] at hh
  refine Eq.trans ?_ hh
  refine concatenate_ofFn_apply (t := S32x512) (s₁ := S32x64) 1 (headShN mask q) _ rfl 64 rfl (ix2 r c) _ rfl _ rfl fun b hb => ?_
  match b with
  | ⟨0, _⟩ => rfl
  | ⟨1, _⟩ => exact absurd rfl hb

/-- The final combination: the chosen rows' weighted sum, projected. -/
theorem headV_re {g : FVec Ideal S32x768 .f32} {x : FVec Ideal S768x512 .f32} {W : FVec Ideal S512x512 .f32}
    {G : Fin 32 → Fin 768 → ℝ} {X : Fin 768 → Fin 512 → ℝ} {V : Fin 512 → Fin 512 → ℝ} (hg : Re2 g G) (hx : Re2 x X)
    (hW : Re2 W V) : Re3 (headV g x W) fun _ c => lin V fun k => ∑ r, G c r * X r k := by
  intro a c d
  pointwise [headV]
  simp only [hg _ _, hx _ _, hW _ _, ← EReal.coe_mul, ← coe_sum]
  rfl

end Cert.KernelIdeal.Ops
-- ==== Proof.Words.lean ====
/-
The integer words of the body: the two mask conditions, the two row selections and the final selection, decided
over their ranges.
-/
module

public import proofs.«01_k».proof.Proof.Gen.KernelIdeal.Frame
public import Idealize.ShloMosaic.Lib.Pointwise

@[expose] public section

set_option maxRecDepth 16384

noncomputable section

namespace Cert.KernelIdeal.Ops

open Idealize.ShloMosaic Cert.KernelIdeal Cert.KernelIdeal.Gen

/-- A shared row may attend to a shared column: same template, not later, and a real token. -/
abbrev OkSh (r c : ℕ) : Prop := r / 8 = c / 8 ∧ c % 8 ≤ r % 8 ∧ c % 8 ≤ 4

/-- An own row may attend to a column of its group: a real shared token, or an own row of its class, not later. -/
abbrev OkOwn (r c : ℕ) : Prop := c ≤ 4 ∨ (8 ≤ c ∧ (c - 8) / 6 = r / 6 ∧ (c - 8) % 6 ≤ r % 6)

/-- The shared mask's condition. -/
def bitSh : IVec S32x32 1 :=
  andi (k0_pay18 (iota .tc S32x32 32 [0] iota_S32x32_d0_w32) (iota .tc S32x32 32 [1] iota_S32x32_d1_w32) k0_pay15
      k0_pay16 k0_pay17)
    (cmpi .sle (select (andi (xori (cmpi .slt (k0_pay19 (iota .tc S32x32 32 [1] iota_S32x32_d1_w32)) (broadcast S32x32 0#32))
        (broadcastTo S32x32 (broadcast S32x32 (Scalar.cmpi .slt (Scalar.select (Scalar.cmpi .eq 8#32 0#32) 1#32 8#32) 0#32))
          broadcasts_S32x32_S32x32))
        (cmpi .ne (k0_pay19 (iota .tc S32x32 32 [1] iota_S32x32_d1_w32)) k0_pay20))
      (addi (k0_pay19 (iota .tc S32x32 32 [1] iota_S32x32_d1_w32))
        (broadcast S32x32 (Scalar.select (Scalar.cmpi .eq 8#32 0#32) 1#32 8#32)))
      (k0_pay19 (iota .tc S32x32 32 [1] iota_S32x32_d1_w32))) (broadcast S32x32 4#32))

/-- The shared mask's condition holds exactly at the allowed pairs. -/
theorem bitSh_eq : ∀ r c : Fin 32, bitSh (ix2 r c) = if OkSh r c then 1#1 else 0#1 := by
  decide +kernel

/-- The own mask's condition. -/
def bitOwn : IVec S96x104 1 :=
  let r := remsi (iota .tc S96x104 32 [0] iota_S96x104_d0_w32) (broadcast S96x104 (Scalar.select (Scalar.cmpi .eq 6#32 0#32) 1#32 6#32))
  ori (cmpi .sle (iota .tc S96x104 32 [1] iota_S96x104_d1_w32) (broadcast S96x104 4#32))
    (andi (k0_pay27 (iota .tc S96x104 32 [0] iota_S96x104_d0_w32) k0_pay23 k0_pay24 k0_pay25 k0_pay26)
      (cmpi .sle (k0_pay28 k0_pay22)
        (select (andi (xori (cmpi .slt r (broadcast S96x104 0#32))
            (broadcastTo S96x104 (broadcast S96x104 (Scalar.cmpi .slt (Scalar.select (Scalar.cmpi .eq 6#32 0#32) 1#32 6#32) 0#32))
              broadcasts_S96x104_S96x104)) (cmpi .ne r (broadcast S96x104 0#32)))
          (addi r (broadcast S96x104 (Scalar.select (Scalar.cmpi .eq 6#32 0#32) 1#32 6#32))) r)))

/-- The own mask's condition holds exactly at the allowed pairs. -/
theorem bitOwn_eq : ∀ (r : Fin 96) (c : Fin 104), bitOwn (ix2 r c) = if OkOwn r c then 1#1 else 0#1 := by
  decide +kernel

end Cert.KernelIdeal.Ops
-- ==== Proof.Select.lean ====
/-
The integer words that pick rows: each row's token and position in its table, and the rows and classes of the
final average, decided over their ranges.
-/
module

public import proofs.«01_k».proof.Proof.Gen.KernelIdeal.Frame
public import Idealize.ShloMosaic.Lib.Pointwise

@[expose] public section

set_option maxRecDepth 16384

noncomputable section

namespace Cert.KernelIdeal.Ops

open Idealize.ShloMosaic Cert.KernelIdeal Cert.KernelIdeal.Gen

/-- The shared table's row with the token of shared row `r`. -/
abbrev tokSh (r : ℕ) : ℕ := if r % 8 = 0 then 0 else if r % 8 ≤ 4 then 1 + r / 8 * 4 + (r % 8 - 1) else 17

/-- The block table's row with the token of own row `r`. -/
abbrev tokOwn (r : ℕ) : ℕ :=
  if r % 6 < 2 then r % 192 / 6 * 2 + r % 6 else if r % 6 < 5 then 64 + (r % 6 - 2) else 67 + r / 192

/-- Which rows of the shared table make up a shared row: its token's and its position's. -/
def selSh : IVec S32x32 1 :=
  ori (cmpi .eq (iota .tc S32x32 32 [1] iota_S32x32_d1_w32)
      (select k0_pay4 (broadcast S32x32 0#32)
        (select (cmpi .sle k0_pay3 (broadcast S32x32 4#32))
          (addi (addi (broadcast S32x32 1#32) (muli k0_pay2 (broadcast S32x32 4#32))) (subi k0_pay3 (broadcast S32x32 1#32)))
          (broadcast S32x32 17#32))))
    (cmpi .eq (iota .tc S32x32 32 [1] iota_S32x32_d1_w32) (addi (broadcast S32x32 18#32) k0_pay3))

/-- The shared selection picks exactly the token's row and the position's row. -/
theorem selSh_eq : ∀ r c : Fin 32, selSh (ix2 r c) = if c.val = tokSh r ∨ c.val = 18 + r.val % 8 then 1#1 else 0#1 := by
  decide +kernel

/-- Each own row's place in its class, as a word. -/
def placeV : IVec S768x80 32 :=
  let x := k0_pay10 (iota .tc S768x80 32 [0] iota_S768x80_d0_w32)
  let r := remsi x (broadcast S768x80 (Scalar.select (Scalar.cmpi .eq 6#32 0#32) 1#32 6#32))
  select (andi (xori (cmpi .slt r (broadcast S768x80 0#32))
      (broadcastTo S768x80 (broadcast S768x80 (Scalar.cmpi .slt (Scalar.select (Scalar.cmpi .eq 6#32 0#32) 1#32 6#32) 0#32))
        broadcasts_S768x80_S768x80)) (cmpi .ne r (broadcast S768x80 0#32)))
    (addi r (broadcast S768x80 (Scalar.select (Scalar.cmpi .eq 6#32 0#32) 1#32 6#32))) r

/-- Each own row's token row, as a word. -/
def tokV : IVec S768x80 32 :=
  let i := iota .tc S768x80 32 [0] iota_S768x80_d0_w32
  select (cmpi .slt placeV (broadcast S768x80 2#32))
    (addi (muli (select (andi (k0_pay12 i) (cmpi .ne (k0_pay13 i) (broadcast S768x80 0#32)))
      (subi (k0_pay11 i) (broadcast S768x80 1#32)) (k0_pay11 i)) (broadcast S768x80 2#32)) placeV)
    (select (cmpi .slt placeV (broadcast S768x80 5#32))
      (addi (broadcast S768x80 64#32) (subi placeV (broadcast S768x80 2#32)))
      (addi (broadcast S768x80 67#32) (k0_pay9 i 192#32 k0_pay7 k0_pay8 (Scalar.extui (Scalar.cmpi .sgt 192#32 0#32))
        (Scalar.cmpi .slt 192#32 0#32))))

theorem placeV_eq : ∀ r : Fin 768, placeV (ix2 r 0) = BitVec.ofNat 32 (r.val % 6) := by decide +kernel
theorem tokV_eq : ∀ r : Fin 768, tokV (ix2 r 0) = BitVec.ofNat 32 (tokOwn r) := by decide +kernel

/-- Which rows of the block table make up an own row: its token's and its position's. -/
def selOwn : IVec S768x80 1 :=
  ori (cmpi .eq (iota .tc S768x80 32 [1] iota_S768x80_d1_w32) tokV)
    (cmpi .eq (iota .tc S768x80 32 [1] iota_S768x80_d1_w32) (addi (broadcast S768x80 72#32) placeV))

/-- The disjunction of two bits. -/
theorem or_bit (p q : Prop) [Decidable p] [Decidable q] :
    IntOp.ori (if p then 1#1 else 0#1) (if q then 1#1 else 0#1) = if p ∨ q then 1#1 else 0#1 := by
  by_cases hp : p <;> by_cases hq : q <;> simp only [hp, hq, if_true, if_false, or_true, true_or, or_false] <;> rfl

/-- The conjunction of two bits. -/
theorem and_bit (p q : Prop) [Decidable p] [Decidable q] :
    IntOp.andi (if p then 1#1 else 0#1) (if q then 1#1 else 0#1) = if p ∧ q then 1#1 else 0#1 := by
  by_cases hp : p <;> by_cases hq : q <;> simp only [hp, hq, if_true, if_false, and_true, true_and, and_false] <;> rfl

/-- Equality of two small words as a bit. -/
theorem cmp_small {a b : ℕ} (ha : a < 2 ^ 32) (hb : b < 2 ^ 32) :
    IntOp.cmpi .eq (BitVec.ofNat 32 a) (BitVec.ofNat 32 b) = if a = b then 1#1 else 0#1 := by
  have h : (BitVec.ofNat 32 a = BitVec.ofNat 32 b) ↔ a = b := by
    rw [← BitVec.toNat_inj, BitVec.toNat_ofNat, BitVec.toNat_ofNat, Nat.mod_eq_of_lt ha, Nat.mod_eq_of_lt hb]
  by_cases e : a = b
  · subst e; simp [IntOp.cmpi]
  · show BitVec.ofBool (BitVec.ofNat 32 a == BitVec.ofNat 32 b) = _
    rw [beq_eq_false_iff_ne.mpr (h.not.mpr e), if_neg e]; rfl

theorem placeV_col (r : Fin 768) (c : Fin 80) : placeV (ix2 r c) = placeV (ix2 r 0) := by
  pointwise [placeV, k0_pay10]

theorem tokV_col (r : Fin 768) (c : Fin 80) : tokV (ix2 r c) = tokV (ix2 r 0) := by
  have := placeV_col r c
  pointwise [tokV, k0_pay7, k0_pay8, k0_pay9, k0_pay10, k0_pay11, k0_pay12, k0_pay13]
  rw [this]

/-- The own selection picks exactly the token's row and the position's row. -/
theorem selOwn_eq (r : Fin 768) (c : Fin 80) :
    selOwn (ix2 r c) = if c.val = tokOwn r ∨ c.val = 72 + r.val % 6 then 1#1 else 0#1 := by
  have h1 : tokOwn r < 2 ^ 32 := by have := r.isLt; unfold tokOwn; split_ifs <;> omega
  pointwise [selOwn]
  rw [tokV_col, placeV_col, tokV_eq, placeV_eq, cmp_small (by omega) h1,
    show IntOp.addi 72#32 (BitVec.ofNat 32 (r.val % 6)) = BitVec.ofNat 32 (72 + r.val % 6) from
      (BitVec.ofNat_add 72 (r.val % 6)).symm, cmp_small (by omega) (by omega)]
  exact or_bit _ _

/-- Which own rows the final average of a class takes: the last rows of that class. -/
def selFin : IVec S32x768 1 :=
  andi (k0_pay89 (Scalar.select (Scalar.cmpi .eq 6#32 0#32) 1#32 6#32) k0_pay86 k0_pay87 k0_pay88)
    (cmpi .eq (k0_pay90 (iota .tc S32x768 32 [1] iota_S32x768_d1_w32)) (iota .tc S32x768 32 [0] iota_S32x768_d0_w32))

theorem lastV_eq : ∀ c : Fin 768, k0_pay89 (Scalar.select (Scalar.cmpi .eq 6#32 0#32) 1#32 6#32) k0_pay86 k0_pay87
    k0_pay88 (ix2 0 c) = if c.val % 6 = 5 then 1#1 else 0#1 := by decide +kernel
theorem classV_eq : ∀ c : Fin 768, k0_pay90 (iota .tc S32x768 32 [1] iota_S32x768_d1_w32) (ix2 0 c) =
    BitVec.ofNat 32 (c.val % 192 / 6) := by decide +kernel

theorem lastV_row (r : Fin 32) (c : Fin 768) : k0_pay89 (Scalar.select (Scalar.cmpi .eq 6#32 0#32) 1#32 6#32) k0_pay86
    k0_pay87 k0_pay88 (ix2 r c) = k0_pay89 (Scalar.select (Scalar.cmpi .eq 6#32 0#32) 1#32 6#32) k0_pay86 k0_pay87
    k0_pay88 (ix2 0 c) := by
  pointwise [k0_pay89, k0_pay86, k0_pay87, k0_pay88]

theorem classV_row (r : Fin 32) (c : Fin 768) : k0_pay90 (iota .tc S32x768 32 [1] iota_S32x768_d1_w32) (ix2 r c) =
    k0_pay90 (iota .tc S32x768 32 [1] iota_S32x768_d1_w32) (ix2 0 c) := by
  pointwise [k0_pay90]

/-- The final selection takes exactly the last rows of the class. -/
theorem selFin_eq (r : Fin 32) (c : Fin 768) :
    selFin (ix2 r c) = if c.val % 6 = 5 ∧ c.val % 192 / 6 = r.val then 1#1 else 0#1 := by
  pointwise [selFin]
  rw [lastV_row, classV_row, lastV_eq, classV_eq, cmp_small (by omega) (by omega)]
  exact and_bit _ _

end Cert.KernelIdeal.Ops
-- ==== Proof.KForm.lean ====
/-
The body's stored block in the vocabulary of its vector computations.
-/
module

public import proofs.«01_k».proof.Proof.Gen.KernelIdeal.Frame
public import proofs.«01_k».proof.Proof.KReal
public import proofs.«01_k».proof.Proof.Words
public import proofs.«01_k».proof.Proof.Select

@[expose] public section

set_option maxRecDepth 16384

noncomputable section

namespace Cert.KernelIdeal.Ops

open Idealize.ShloMosaic Cert.KernelIdeal Cert.KernelIdeal.Gen Cert.Rows

/-- A choice by a bit. -/
theorem select_bit (p : Prop) [Decidable p] (a b : EReal) :
    Scalar.select (if p then 1#1 else 0#1) a b = if p then a else b := by
  split_ifs <;> rfl

/-- A sum with one weight at two places. -/
theorem pick2 {n : ℕ} (f : Fin n → ℝ) (a b : Fin n) (h : a ≠ b) :
    ∑ x : Fin n, FloatOps.sitofp (F := Ideal) .f32 (BitVec.setWidth 32 (if x.val = a.val ∨ x.val = b.val then 1#1 else 0#1)) *
      ((f x : ℝ) : EReal) = ((f a + f b : ℝ) : EReal) := by
  have e : ∀ x : Fin n, FloatOps.sitofp (F := Ideal) .f32
      (BitVec.setWidth 32 (if x.val = a.val ∨ x.val = b.val then 1#1 else 0#1)) * ((f x : ℝ) : EReal) =
      (((if x = a then f x else 0) + (if x = b then f x else 0) : ℝ) : EReal) := by
    intro x
    have h1 : FloatOps.sitofp (F := Ideal) .f32 (BitVec.setWidth 32 1#1) = 1 := by
      simp [FloatOps.sitofp]
    have h0 : FloatOps.sitofp (F := Ideal) .f32 (BitVec.setWidth 32 0#1) = 0 := by
      simp [FloatOps.sitofp]
    simp only [← Fin.ext_iff]
    by_cases ha : x = a
    · have hb : x ≠ b := fun hb => h (ha.symm.trans hb)
      rw [if_pos (Or.inl ha), if_pos ha, if_neg hb, h1, one_mul, add_zero]
    · by_cases hb : x = b
      · rw [if_pos (Or.inr hb), if_neg ha, if_pos hb, h1, one_mul, zero_add]
      · rw [if_neg (by simp [ha, hb]), if_neg ha, if_neg hb, h0, zero_mul, add_zero, EReal.coe_zero]
  simp only [e]
  rw [← coe_sum, Finset.sum_add_distrib, Finset.sum_ite_eq', Finset.sum_ite_eq']
  simp

/-- The shared rows from their table. -/
def rowsSh (T : Fin 32 → Fin 512 → ℝ) (r : Fin 32) : Fin 512 → ℝ := fun c =>
  T ⟨tokSh r, by unfold tokSh; split_ifs <;> omega⟩ c + T ⟨18 + r % 8, by omega⟩ c

/-- A block's table: its classes' rows, then the rows all classes share. -/
def table (C : Fin 64 → Fin 512 → ℝ) (T : Fin 16 → Fin 512 → ℝ) (i : Fin 80) : Fin 512 → ℝ :=
  if h : i.val < 64 then C ⟨i, h⟩ else T ⟨i - 64, by omega⟩

/-- The own rows from their table. -/
def rowsOwn (C : Fin 64 → Fin 512 → ℝ) (T : Fin 16 → Fin 512 → ℝ) (r : Fin 768) : Fin 512 → ℝ := fun c =>
  table C T ⟨tokOwn r, by unfold tokOwn; split_ifs <;> omega⟩ c + table C T ⟨72 + r % 6, by omega⟩ c

theorem table_re {x0 : Vec Ideal S64x512 .f32} {x1 : Vec Ideal S16x512 .f32} {C : Fin 64 → Fin 512 → ℝ}
    {T : Fin 16 → Fin 512 → ℝ} (hC : Re2 x0 C) (hT : Re2 x1 T) :
    Re2 (k0_pay6 (View.ld x0 r0_1) (View.ld x1 r0_2)) (table C T) := by
  intro r c
  have : k0_pay6 (View.ld x0 r0_1) (View.ld x1 r0_2) (ix2 r c) = if h : r.val < 64 then x0 (ix2 ⟨r, h⟩ c)
      else x1 (ix2 ⟨r - 64, by omega⟩ c) := by pointwise [k0_pay6]
  rw [this]
  unfold table
  split_ifs
  · exact hC _ _
  · exact hT _ _

/-- The shared rows after a layer. -/
def stepSh (P : Layer) (X : Fin 32 → Fin 512 → ℝ) (r : Fin 32) : Fin 512 → ℝ :=
  step P (fun k : Fin 32 => OkSh r k) (X r) fun k => qkv P (X k)

/-- The own rows after a layer. -/
def stepOwn (P : Layer) (S : Fin 32 → Fin 512 → ℝ) (X : Fin 768 → Fin 512 → ℝ) (r : Fin 768) : Fin 512 → ℝ :=
  step P (fun k : Fin 104 => OkOwn (r % 96) k) (X r)
    (keys (fun k => qkv P (S k)) (fun g k => qkv P (X ⟨g * 96 + k, by omega⟩)) ⟨r / 96, by omega⟩)

section

variable (x0 : Vec Ideal S64x512 .f32) (x1 : Vec Ideal S16x512 .f32) (x2 : Vec Ideal S32x512 .f32)
  (x3 x4 : Vec Ideal S2x512 .f32) (x5 : Vec Ideal S2x512x1536 .f32) (x6 : Vec Ideal S2x1536 .f32)
  (x7 : Vec Ideal S2x512x512 .f32) (x8 x9 x10 : Vec Ideal S2x512 .f32) (x11 : Vec Ideal S2x512x2048 .f32)
  (x12 : Vec Ideal S2x2048 .f32) (x13 : Vec Ideal S2x2048x512 .f32) (x14 : Vec Ideal S2x512 .f32)
  (x15 x16 : Vec Ideal S1x512 .f32) (x17 : Vec Ideal S512x512 .f32)

theorem qkvSh0_eq : (k0_pay98 x0 x1 x2 x3 x4 x5 x6 x7 x8 x9 x10 x11 x12 x13 x14 x15 x16 x17) = qkvSh (lnSh (k0_pay92 x0 x1 x2 x3 x4 x5 x6 x7 x8 x9 x10 x11 x12 x13 x14 x15 x16 x17) (rowV (View.ld x3 r0_3)) (rowV (View.ld x4 r0_3)))
    (View.ld x5 r0_4) (View.ld x6 r0_5) := rfl

theorem qkvOwn0_eq : (k0_pay100 x0 x1 x2 x3 x4 x5 x6 x7 x8 x9 x10 x11 x12 x13 x14 x15 x16 x17) = qkvOwn (lnOwn (k0_pay93 x0 x1 x2 x3 x4 x5 x6 x7 x8 x9 x10 x11 x12 x13 x14 x15 x16 x17) (rowV (View.ld x3 r0_3)) (rowV (View.ld x4 r0_3)))
    (View.ld x5 r0_4) (View.ld x6 r0_5) := rfl

theorem kvOwn0_eq : (k0_pay101 x0 x1 x2 x3 x4 x5 x6 x7 x8 x9 x10 x11 x12 x13 x14 x15 x16 x17) = kvOwn (k0_pay98 x0 x1 x2 x3 x4 x5 x6 x7 x8 x9 x10 x11 x12 x13 x14 x15 x16 x17) (k0_pay100 x0 x1 x2 x3 x4 x5 x6 x7 x8 x9 x10 x11 x12 x13 x14 x15 x16 x17) := rfl

theorem own0_eq : (k0_pay103 x0 x1 x2 x3 x4 x5 x6 x7 x8 x9 x10 x11 x12 x13 x14 x15 x16 x17) =
    (let y := resOwn (k0_pay93 x0 x1 x2 x3 x4 x5 x6 x7 x8 x9 x10 x11 x12 x13 x14 x15 x16 x17) (attOwn (k0_pay97 x0 x1 x2 x3 x4 x5 x6 x7 x8 x9 x10 x11 x12 x13 x14 x15 x16 x17) (k0_pay100 x0 x1 x2 x3 x4 x5 x6 x7 x8 x9 x10 x11 x12 x13 x14 x15 x16 x17) (k0_pay101 x0 x1 x2 x3 x4 x5 x6 x7 x8 x9 x10 x11 x12 x13 x14 x15 x16 x17)) (View.ld x7 r0_6) (View.ld x8 r0_3)
     mlpOwn y (hidOwn y (View.ld x9 r0_3) (View.ld x10 r0_3) (View.ld x11 r0_7) (View.ld x12 r0_8))
      (View.ld x13 r0_9) (View.ld x14 r0_3)) := rfl

theorem sh0_eq : (k0_pay104 x0 x1 x2 x3 x4 x5 x6 x7 x8 x9 x10 x11 x12 x13 x14 x15 x16 x17) = resSh (k0_pay92 x0 x1 x2 x3 x4 x5 x6 x7 x8 x9 x10 x11 x12 x13 x14 x15 x16 x17) (attSh (k0_pay96 x0 x1 x2 x3 x4 x5 x6 x7 x8 x9 x10 x11 x12 x13 x14 x15 x16 x17) (k0_pay98 x0 x1 x2 x3 x4 x5 x6 x7 x8 x9 x10 x11 x12 x13 x14 x15 x16 x17)) (View.ld x7 r0_6) (View.ld x8 r0_3) := rfl

theorem qkvOwn1_eq : (k0_pay105 x0 x1 x2 x3 x4 x5 x6 x7 x8 x9 x10 x11 x12 x13 x14 x15 x16 x17) = qkvOwn (lnOwn (k0_pay103 x0 x1 x2 x3 x4 x5 x6 x7 x8 x9 x10 x11 x12 x13 x14 x15 x16 x17) (rowV (View.ld x3 r0_10)) (rowV (View.ld x4 r0_10)))
    (View.ld x5 r0_11) (View.ld x6 r0_12) := rfl

theorem kvOwn1_eq : (k0_pay106 x0 x1 x2 x3 x4 x5 x6 x7 x8 x9 x10 x11 x12 x13 x14 x15 x16 x17) = kvOwn (qkvSh (lnSh
    (mlpSh (k0_pay104 x0 x1 x2 x3 x4 x5 x6 x7 x8 x9 x10 x11 x12 x13 x14 x15 x16 x17) (hidSh (k0_pay104 x0 x1 x2 x3 x4 x5 x6 x7 x8 x9 x10 x11 x12 x13 x14 x15 x16 x17) (View.ld x9 r0_3) (View.ld x10 r0_3) (View.ld x11 r0_7) (View.ld x12 r0_8))
      (View.ld x13 r0_9) (View.ld x14 r0_3)) (rowV (View.ld x3 r0_10)) (rowV (View.ld x4 r0_10)))
    (View.ld x5 r0_11) (View.ld x6 r0_12)) (k0_pay105 x0 x1 x2 x3 x4 x5 x6 x7 x8 x9 x10 x11 x12 x13 x14 x15 x16 x17) := rfl

theorem out_eq : (out0_18 x0 x1 x2 x3 x4 x5 x6 x7 x8 x9 x10 x11 x12 x13 x14 x15 x16 x17) = View.canon [⟨r0_19, headV
    (select selFin (broadcast S32x768 (Scalar.ofBits (F := Ideal) .f32 0x3E800000#32))
      (broadcast S32x768 (Scalar.ofBits (F := Ideal) .f32 0x00000000#32)))
    (lnOwn (let y := resOwn (k0_pay103 x0 x1 x2 x3 x4 x5 x6 x7 x8 x9 x10 x11 x12 x13 x14 x15 x16 x17) (attOwn (k0_pay97 x0 x1 x2 x3 x4 x5 x6 x7 x8 x9 x10 x11 x12 x13 x14 x15 x16 x17) (k0_pay105 x0 x1 x2 x3 x4 x5 x6 x7 x8 x9 x10 x11 x12 x13 x14 x15 x16 x17) (k0_pay106 x0 x1 x2 x3 x4 x5 x6 x7 x8 x9 x10 x11 x12 x13 x14 x15 x16 x17)) (View.ld x7 r0_13) (View.ld x8 r0_10)
       mlpOwn y (hidOwn y (View.ld x9 r0_10) (View.ld x10 r0_10) (View.ld x11 r0_14) (View.ld x12 r0_15))
        (View.ld x13 r0_16) (View.ld x14 r0_10))
      (shapeCast S1x512 (View.ld x15 r0_17) shapeCasts_S1x512_S1x512)
      (shapeCast S1x512 (View.ld x16 r0_17) shapeCasts_S1x512_S1x512)) (View.ld x17 r0_18)⟩] := rfl

theorem xsh_eq : (k0_pay92 x0 x1 x2 x3 x4 x5 x6 x7 x8 x9 x10 x11 x12 x13 x14 x15 x16 x17) = matmul (φ₂ := .f32) dot_S32x32_S32x512_S32x512_1_0_0_1_n_n (some .fp32)
    (sitofp (F := Ideal) .f32 (extui 32 selSh natLt_1_32)) (shapeCast S32x512 (View.ld x2 r0_0) shapeCasts_S32x512_S32x512)
    (constant (F := Ideal) S32x512 .f32 0x00000000#32) := rfl

theorem xown_eq : (k0_pay93 x0 x1 x2 x3 x4 x5 x6 x7 x8 x9 x10 x11 x12 x13 x14 x15 x16 x17) = matmul (φ₂ := .f32) dot_S768x80_S80x512_S768x512_1_0_0_1_n_n (some .fp32)
    (sitofp (F := Ideal) .f32 (extui 32 selOwn natLt_1_32)) (k0_pay6 (View.ld x0 r0_1) (View.ld x1 r0_2))
    (constant (F := Ideal) S768x512 .f32 0x00000000#32) := rfl

theorem maskSh_eq : (k0_pay96 x0 x1 x2 x3 x4 x5 x6 x7 x8 x9 x10 x11 x12 x13 x14 x15 x16 x17) = select bitSh (broadcast S32x32 (Scalar.ofBits (F := Ideal) .f32 0x00000000#32))
    (broadcast S32x32 (Named.named (F := Ideal) κ "mask" 0xCE6E6B28#32)) := rfl

theorem maskOwn_eq : (k0_pay97 x0 x1 x2 x3 x4 x5 x6 x7 x8 x9 x10 x11 x12 x13 x14 x15 x16 x17) = shapeCast S1x96x104 (select bitOwn
    (broadcast S96x104 (Scalar.ofBits (F := Ideal) .f32 0x00000000#32))
    (broadcast S96x104 (Named.named (F := Ideal) κ "mask" 0xCE6E6B28#32))) shapeCasts_S96x104_S1x96x104 := rfl

/-- The shared mask: zero at the allowed pairs, minus infinity elsewhere. -/
theorem maskSh_apply (r k : Fin 32) : (k0_pay96 x0 x1 x2 x3 x4 x5 x6 x7 x8 x9 x10 x11 x12 x13 x14 x15 x16 x17) (ix2 r k) = if OkSh r k then 0 else ⊥ := by
  rw [maskSh_eq]
  pointwise []
  rw [bitSh_eq, IdealRules.named_const.ideal_named_scalar _ _ _ _ rfl]
  exact select_bit _ _ _

/-- The own mask: zero at the allowed pairs, minus infinity elsewhere. -/
theorem maskOwn_apply (r : Fin 96) (k : Fin 104) : (k0_pay97 x0 x1 x2 x3 x4 x5 x6 x7 x8 x9 x10 x11 x12 x13 x14 x15 x16 x17) (ix3 0 r k) = if OkOwn r k then 0 else ⊥ := by
  rw [maskOwn_eq]
  pointwise []
  rw [bitOwn_eq, IdealRules.named_const.ideal_named_scalar _ _ _ _ rfl]
  exact select_bit _ _ _

/-- The shared rows before the first layer. -/
theorem xsh_re {T : Fin 32 → Fin 512 → ℝ} (hT : Re2 x2 T) : Re2 (k0_pay92 x0 x1 x2 x3 x4 x5 x6 x7 x8 x9 x10 x11 x12 x13 x14 x15 x16 x17) (rowsSh T) := by
  intro r c
  rw [xsh_eq]
  pointwise []
  simp only [selSh_eq, hT _ _]
  exact pick2 _ ⟨tokSh r, _⟩ ⟨18 + r % 8, _⟩ (by
    simp only [ne_eq, Fin.mk.injEq]
    have := r.isLt
    unfold tokSh
    split_ifs <;> omega)

/-- The own rows before the first layer. -/
theorem xown_re {C : Fin 64 → Fin 512 → ℝ} {T : Fin 16 → Fin 512 → ℝ} (hC : Re2 x0 C) (hT : Re2 x1 T) :
    Re2 (k0_pay93 x0 x1 x2 x3 x4 x5 x6 x7 x8 x9 x10 x11 x12 x13 x14 x15 x16 x17) (rowsOwn C T) := by
  intro r c
  have hl : Re2 (k0_pay6 (View.ld x0 r0_1) (View.ld x1 r0_2)) (table C T) := table_re hC hT
  rw [xown_eq]
  pointwise []
  simp only [selOwn_eq, hl _ _]
  exact pick2 (fun i => table C T i c) ⟨tokOwn r, _⟩ ⟨72 + r % 6, _⟩ (by
    simp only [ne_eq, Fin.mk.injEq]
    have := r.isLt
    unfold tokOwn
    split_ifs <;> omega)

/-- The weights' blocks hold the two layers' real weights. -/
structure Reads (P : Fin 2 → Layer) : Prop where
  s1 : Re2 x3 fun l => (P l).s1
  b1 : Re2 x4 fun l => (P l).b1
  Wq : Re3 x5 fun l => (P l).Wq
  bq : Re2 x6 fun l => (P l).bq
  Wo : Re3 x7 fun l => (P l).Wo
  bo : Re2 x8 fun l => (P l).bo
  s2 : Re2 x9 fun l => (P l).s2
  b2 : Re2 x10 fun l => (P l).b2
  W1 : Re3 x11 fun l => (P l).W1
  c1 : Re2 x12 fun l => (P l).c1
  W2 : Re3 x13 fun l => (P l).W2
  c2 : Re2 x14 fun l => (P l).c2

/-- The kernel's shared rows at the start of each layer. -/
def rowsShAt (P : Fin 2 → Layer) (T : Fin 32 → Fin 512 → ℝ) : ℕ → Fin 32 → Fin 512 → ℝ
  | 0 => rowsSh T
  | _ + 1 => stepSh (P 0) (rowsSh T)

/-- The kernel's own rows at the start of each layer and after the last. -/
def rowsOwnAt (P : Fin 2 → Layer) (S : Fin 32 → Fin 512 → ℝ) (C : Fin 64 → Fin 512 → ℝ) (T : Fin 16 → Fin 512 → ℝ) :
    ℕ → Fin 768 → Fin 512 → ℝ
  | 0 => rowsOwn C T
  | 1 => stepOwn (P 0) (rowsShAt P S 0) (rowsOwn C T)
  | _ + 2 => stepOwn (P 1) (rowsShAt P S 1) (stepOwn (P 0) (rowsShAt P S 0) (rowsOwn C T))

theorem okSh_self (r : Fin 32) : ∃ k : Fin 32, OkSh r k := ⟨⟨r / 8 * 8, by omega⟩, by constructor <;> simp⟩
theorem okOwn_self (r : Fin 96) : ∃ k : Fin 104, OkOwn r k := ⟨0, by left; decide⟩

variable {x0 x1 x2 x3 x4 x5 x6 x7 x8 x9 x10 x11 x12 x13 x14} in
theorem sh0_re {P : Fin 2 → Layer} {S : Fin 32 → Fin 512 → ℝ} (hS : Re2 x2 S)
    (h : Reads x3 x4 x5 x6 x7 x8 x9 x10 x11 x12 x13 x14 P) :
    Re2 (k0_pay98 x0 x1 x2 x3 x4 x5 x6 x7 x8 x9 x10 x11 x12 x13 x14 x15 x16 x17) (fun k => qkv (P 0) (rowsSh S k)) ∧
    Re2 (k0_pay104 x0 x1 x2 x3 x4 x5 x6 x7 x8 x9 x10 x11 x12 x13 x14 x15 x16 x17) (fun k => res (P 0) (rowsSh S k)
      (attn (fun j : Fin 32 => OkSh k j) (qkv (P 0) (rowsSh S k)) fun j => qkv (P 0) (rowsSh S j))) := by
  have hx := xsh_re x0 x1 x2 x3 x4 x5 x6 x7 x8 x9 x10 x11 x12 x13 x14 x15 x16 x17 hS
  have hq : Re2 (k0_pay98 x0 x1 x2 x3 x4 x5 x6 x7 x8 x9 x10 x11 x12 x13 x14 x15 x16 x17) fun k => qkv (P 0) (rowsSh S k) := by
    rw [qkvSh0_eq]
    exact qkvSh_re (P 0) hx (fun r c => by pointwise []; exact h.s1 0 c) (fun r c => by pointwise []; exact h.b1 0 c)
      (fun r k c => by pointwise []; exact h.Wq 0 k c) (fun r c => by pointwise []; exact h.bq 0 c)
  refine ⟨hq, ?_⟩
  rw [sh0_eq]
  exact resSh_re (P 0) hx (attSh_re (fun r k : Fin 32 => OkSh r k) okSh_self (maskSh_apply x0 x1 x2 x3 x4 x5 x6 x7 x8 x9 x10 x11 x12 x13 x14 x15 x16 x17) hq)
    (fun r k c => by pointwise []; exact h.Wo 0 k c) (fun r c => by pointwise []; exact h.bo 0 c)

end

end Cert.KernelIdeal.Ops
-- ==== Proof.KBlock.lean ====
/-
The body's stored block over real inputs: the real-number tower of the shared and the own rows, and the projected
averages of the classes.
-/
module

public import proofs.«01_k».proof.Proof.KForm

@[expose] public section

set_option maxRecDepth 16384

noncomputable section

namespace Cert.KernelIdeal.Ops

open Idealize.ShloMosaic Cert.KernelIdeal Cert.KernelIdeal.Gen Cert.Rows

/-- One layer of the own rows is the reals' layer. -/
theorem layerOwn_re {x : FVec Ideal S768x512 .f32} {mask : FVec Ideal S1x96x104 .f32} {q : FVec Ideal S8x96x1536 .f32}
    {kv : FVec Ideal S8x104x1536 .f32} {Wo : FVec Ideal S1x512x512 .f32} {bo s b c2 : FVec Ideal S1x512 .f32}
    {W1 : FVec Ideal S1x512x2048 .f32} {c1 : FVec Ideal S1x2048 .f32} {W2 : FVec Ideal S1x2048x512 .f32}
    {X : Fin 768 → Fin 512 → ℝ} {S : Fin 32 → Fin 512 → ℝ} (P : Layer) (hx : Re2 x X)
    (hm : ∀ (r : Fin 96) (k : Fin 104), mask (ix3 0 r k) = if OkOwn r k then 0 else ⊥)
    (hq : Re3 q fun g k => qkv P (X ⟨g * 96 + k, by omega⟩))
    (hk : Re3 kv (keys (fun k => qkv P (S k)) fun g k => qkv P (X ⟨g * 96 + k, by omega⟩)))
    (hWo : Re3 Wo fun _ => P.Wo) (hbo : Re2 bo fun _ => P.bo) (hs : Re2 s fun _ => P.s2) (hb : Re2 b fun _ => P.b2)
    (hW1 : Re3 W1 fun _ => P.W1) (hc1 : Re2 c1 fun _ => P.c1) (hW2 : Re3 W2 fun _ => P.W2) (hc2 : Re2 c2 fun _ => P.c2) :
    Re2 (let y := resOwn x (attOwn mask q kv) Wo bo
         mlpOwn y (hidOwn y s b W1 c1) W2 c2) (stepOwn P S X) := by
  have ha := attOwn_re (fun (r : Fin 96) (k : Fin 104) => OkOwn r k) okOwn_self hm hq hk
  have hy := resOwn_re P hx ha hWo hbo
  intro r c
  refine (mlpOwn_re P hy (hidOwn_re P hy hs hb hW1 hc1) hW2 hc2 r c).trans ?_
  have e : (⟨r.val / 96 * 96 + r.val % 96, by omega⟩ : Fin 768) = r := Fin.ext (by simp only []; omega)
  simp only [e]
  rfl

/-- The final weights: a quarter at each template's last row of the class. -/
def quarter (c : Fin 32) (r : Fin 768) : ℝ := if r.val % 6 = 5 ∧ r.val % 192 / 6 = c.val then 1 / 4 else 0

theorem quarter_re : Re2 (select selFin (broadcast S32x768 (Scalar.ofBits (F := Ideal) .f32 0x3E800000#32))
    (broadcast S32x768 (Scalar.ofBits (F := Ideal) .f32 0x00000000#32))) quarter := by
  intro c r
  pointwise []
  rw [selFin_eq, select_bit, lit_quarter, quarter]
  split_ifs <;> simp

section

variable {x0 : Vec Ideal S64x512 .f32} {x1 : Vec Ideal S16x512 .f32} {x2 : Vec Ideal S32x512 .f32}
  {x3 x4 : Vec Ideal S2x512 .f32} {x5 : Vec Ideal S2x512x1536 .f32} {x6 : Vec Ideal S2x1536 .f32}
  {x7 : Vec Ideal S2x512x512 .f32} {x8 x9 x10 : Vec Ideal S2x512 .f32} {x11 : Vec Ideal S2x512x2048 .f32}
  {x12 : Vec Ideal S2x2048 .f32} {x13 : Vec Ideal S2x2048x512 .f32} {x14 : Vec Ideal S2x512 .f32}
  {x15 x16 : Vec Ideal S1x512 .f32} {x17 : Vec Ideal S512x512 .f32}
  {P : Fin 2 → Layer} {S : Fin 32 → Fin 512 → ℝ} {C : Fin 64 → Fin 512 → ℝ} {T : Fin 16 → Fin 512 → ℝ}

/-- The own rows after the first layer. -/
theorem own0_re (hS : Re2 x2 S) (hC : Re2 x0 C) (hT : Re2 x1 T) (h : Reads x3 x4 x5 x6 x7 x8 x9 x10 x11 x12 x13 x14 P) :
    Re2 (k0_pay103 x0 x1 x2 x3 x4 x5 x6 x7 x8 x9 x10 x11 x12 x13 x14 x15 x16 x17) (rowsOwnAt P S C T 1) := by
  have hx := xown_re x0 x1 x2 x3 x4 x5 x6 x7 x8 x9 x10 x11 x12 x13 x14 x15 x16 x17 hC hT
  have hs := (sh0_re (x0 := x0) (x1 := x1) x15 x16 x17 hS h).1
  have hq := qkvOwn_re (P 0) hx (s := View.ld x3 r0_3) (b := View.ld x4 r0_3) (W := View.ld x5 r0_4)
    (bq := View.ld x6 r0_5) (fun r c => by pointwise []; exact h.s1 0 c) (fun r c => by pointwise []; exact h.b1 0 c)
    (fun r k c => by pointwise []; exact h.Wq 0 k c) (fun r c => by pointwise []; exact h.bq 0 c)
  rw [← qkvOwn0_eq] at hq
  have hk := kvOwn_re hs hq
  rw [← kvOwn0_eq] at hk
  rw [own0_eq]
  exact layerOwn_re (P 0) hx (maskOwn_apply x0 x1 x2 x3 x4 x5 x6 x7 x8 x9 x10 x11 x12 x13 x14 x15 x16 x17) hq hk
    (fun r k c => by pointwise []; exact h.Wo 0 k c) (fun r c => by pointwise []; exact h.bo 0 c)
    (fun r c => by pointwise []; exact h.s2 0 c) (fun r c => by pointwise []; exact h.b2 0 c)
    (fun r k c => by pointwise []; exact h.W1 0 k c) (fun r c => by pointwise []; exact h.c1 0 c)
    (fun r k c => by pointwise []; exact h.W2 0 k c) (fun r c => by pointwise []; exact h.c2 0 c)

/-- The query, key and value rows of the second layer. -/
theorem qkv1_re (hS : Re2 x2 S) (hC : Re2 x0 C) (hT : Re2 x1 T) (h : Reads x3 x4 x5 x6 x7 x8 x9 x10 x11 x12 x13 x14 P) :
    Re3 (k0_pay105 x0 x1 x2 x3 x4 x5 x6 x7 x8 x9 x10 x11 x12 x13 x14 x15 x16 x17) (fun g k => qkv (P 1) (rowsOwnAt P S C T 1 ⟨g * 96 + k, by omega⟩)) ∧
    Re3 (k0_pay106 x0 x1 x2 x3 x4 x5 x6 x7 x8 x9 x10 x11 x12 x13 x14 x15 x16 x17) (keys (fun k => qkv (P 1) (rowsShAt P S 1 k))
      fun g k => qkv (P 1) (rowsOwnAt P S C T 1 ⟨g * 96 + k, by omega⟩)) := by
  have hx := own0_re (x15 := x15) (x16 := x16) (x17 := x17) hS hC hT h
  have hs := (sh0_re (x0 := x0) (x1 := x1) x15 x16 x17 hS h).2
  have hq : Re3 (k0_pay105 x0 x1 x2 x3 x4 x5 x6 x7 x8 x9 x10 x11 x12 x13 x14 x15 x16 x17) (fun g k => qkv (P 1) (rowsOwnAt P S C T 1 ⟨g * 96 + k, by omega⟩)) := by
    rw [qkvOwn1_eq]
    exact qkvOwn_re (P 1) hx (fun r c => by pointwise []; exact h.s1 1 c) (fun r c => by pointwise []; exact h.b1 1 c)
      (fun r k c => by pointwise []; exact h.Wq 1 k c) (fun r c => by pointwise []; exact h.bq 1 c)
  refine ⟨hq, ?_⟩
  rw [kvOwn1_eq]
  have hm := mlpSh_re (P 0) hs (hidSh_re (s := View.ld x9 r0_3) (b := View.ld x10 r0_3) (W := View.ld x11 r0_7)
    (c := View.ld x12 r0_8) (P 0) hs (fun r c => by pointwise []; exact h.s2 0 c)
    (fun r c => by pointwise []; exact h.b2 0 c) (fun r k c => by pointwise []; exact h.W1 0 k c)
    (fun r c => by pointwise []; exact h.c1 0 c)) (W := View.ld x13 r0_9) (b := View.ld x14 r0_3)
    (fun r k c => by pointwise []; exact h.W2 0 k c) (fun r c => by pointwise []; exact h.c2 0 c)
  refine kvOwn_re (qkvSh_re (P 1) hm (fun r c => by pointwise []; exact h.s1 1 c) (fun r c => by pointwise []; exact h.b1 1 c)
      (fun r k c => by pointwise []; exact h.Wq 1 k c) (fun r c => by pointwise []; exact h.bq 1 c)) hq

/-- The stored block: each class's weighted sum of normalised own rows, projected. -/
theorem out_re {sf bf : Fin 512 → ℝ} {V : Fin 512 → Fin 512 → ℝ} (hS : Re2 x2 S) (hC : Re2 x0 C) (hT : Re2 x1 T)
    (h : Reads x3 x4 x5 x6 x7 x8 x9 x10 x11 x12 x13 x14 P) (h15 : Re2 x15 fun _ => sf) (h16 : Re2 x16 fun _ => bf)
    (h17 : Re2 x17 V) : Re3 (out0_18 x0 x1 x2 x3 x4 x5 x6 x7 x8 x9 x10 x11 x12 x13 x14 x15 x16 x17) fun _ c =>
      lin V fun k => ∑ r, quarter c r * lnR (rowsOwnAt P S C T 2 r) sf bf k := by
  have hx := own0_re (x15 := x15) (x16 := x16) (x17 := x17) hS hC hT h
  have hq := qkv1_re (x15 := x15) (x16 := x16) (x17 := x17) hS hC hT h
  have hy := layerOwn_re (P 1) hx (maskOwn_apply x0 x1 x2 x3 x4 x5 x6 x7 x8 x9 x10 x11 x12 x13 x14 x15 x16 x17) hq.1 hq.2
    (Wo := View.ld x7 r0_13) (bo := View.ld x8 r0_10) (s := View.ld x9 r0_10) (b := View.ld x10 r0_10)
    (W1 := View.ld x11 r0_14) (c1 := View.ld x12 r0_15) (W2 := View.ld x13 r0_16) (c2 := View.ld x14 r0_10)
    (fun r k c => by pointwise []; exact h.Wo 1 k c) (fun r c => by pointwise []; exact h.bo 1 c)
    (fun r c => by pointwise []; exact h.s2 1 c) (fun r c => by pointwise []; exact h.b2 1 c)
    (fun r k c => by pointwise []; exact h.W1 1 k c) (fun r c => by pointwise []; exact h.c1 1 c)
    (fun r k c => by pointwise []; exact h.W2 1 k c) (fun r c => by pointwise []; exact h.c2 1 c)
  have hl := lnOwn_re hy (s := shapeCast S1x512 (View.ld x15 r0_17) shapeCasts_S1x512_S1x512)
    (b := shapeCast S1x512 (View.ld x16 r0_17) shapeCasts_S1x512_S1x512) (S := fun _ => sf) (B := fun _ => bf)
    (fun r c => by pointwise []; exact h15 _ c) (fun r c => by pointwise []; exact h16 _ c)
  have hV := headV_re quarter_re hl (W := View.ld x17 r0_18) (V := V) (fun r c => by pointwise []; exact h17 r c)
  intro a c d
  rw [out_eq]
  refine Eq.trans ?_ (hV a c d)
  rw [View.canon_unit_zero (funext fun b => by fin_cases b <;> rfl)]

end

end Cert.KernelIdeal.Ops
-- ==== Proof.ROps.lean ====
/-
The reference's array computations under names of their own.
-/
module

public import proofs.«01_k».proof.Proof.Gen.ReferenceIdeal.Read
public import proofs.«01_k».proof.Proof.RowMath

@[expose] public section

set_option maxRecDepth 16384

noncomputable section

namespace Cert.ReferenceIdeal.Ops

open Idealize.ShloMosaic Cert.ReferenceIdeal Cert.ReferenceIdeal.Gen Cert.Rows

/-- A constant array. -/
abbrev scalarAt (s : Shape) (h : S_.BroadcastsInDim s ![]) (w : BitVec 32) : FVec Ideal s .f32 :=
  broadcastInDim s ![] h (constant (F := Ideal) S_ .f32 w)

/-- A row of 512 repeated over every sequence and position. -/
def overRows (s : FVec Ideal S512 .f32) : FVec Ideal S256x77x512 .f32 :=
  broadcastInDim S256x77x512 ![0, 1, 2] bcast_S1x1x512_S256x77x512_0_1_2 (broadcastInDim S1x1x512 ![2] bcast_S512_S1x1x512_2 s)

/-- A number per position repeated over its row. -/
def overCols (s : FVec Ideal S256x77x1 .f32) : FVec Ideal S256x77x512 .f32 :=
  broadcastInDim S256x77x512 ![0, 1, 2] bcast_S256x77x1_S256x77x512_0_1_2 s

/-- Each row's sum over 512. -/
def avgCols (x : FVec Ideal S256x77x512 .f32) : FVec Ideal S256x77x1 .f32 :=
  Host.divf (broadcastInDim S256x77x1 ![0, 1] bcast_S256x77_S256x77x1_0_1
    (Host.reduceAdd x (constant (F := Ideal) S_ .f32 0x00000000#32) reducesTo_S256x77x512_S256x77_d2 h_S_))
    (scalarAt S256x77x1 bcast_S_S256x77x1 0x44000000#32)

/-- Layer normalisation. -/
def lnF (x : FVec Ideal S256x77x512 .f32) (s b : FVec Ideal S512 .f32) : FVec Ideal S256x77x512 .f32 :=
  let d := subf x (overCols (avgCols x))
  addf (mulf (Host.divf d (overCols (Host.sqrt (addf (avgCols (mulf d d)) (scalarAt S256x77x1 bcast_S_S256x77x1 0x3727C5AC#32)))))
    (overRows s)) (overRows b)

/-- The query, key and value rows. -/
def qkvF (h : FVec Ideal S256x77x512 .f32) (W : FVec Ideal S512x1536 .f32) (b : FVec Ideal S1536 .f32) :
    FVec Ideal S256x77x1536 .f32 :=
  addf (Host.dotGeneral dot_S256x77x512_S512x1536_S256x77x1536_2_0_01_1_n_n none h W)
    (broadcastInDim S256x77x1536 ![0, 1, 2] bcast_S1x1x1536_S256x77x1536_0_1_2 (broadcastInDim S1x1x1536 ![2] bcast_S1536_S1x1x1536_2 b))

/-- A third of the query, key and value rows, head by head. -/
def headsF (o : ℕ) (h : S256x77x1536.Slices ![0, 0, o] S256x77x512) (q : FVec Ideal S256x77x1536 .f32) :
    FVec Ideal S256x8x77x64 .f32 :=
  transpose S256x8x77x64 [0, 2, 1, 3] (shapeCast S256x77x8x64 (extractStridedSlice S256x77x512 ![0, 0, o] q h)
    shapeCasts_S256x77x512_S256x77x8x64) transposes_S256x77x8x64_S256x8x77x64_0_2_1_3

/-- The masked scores. -/
def scoreF (mask : FVec Ideal S77x77 .f32) (q : FVec Ideal S256x77x1536 .f32) : FVec Ideal S256x8x77x77 .f32 :=
  addf (mulf (Host.dotGeneral dot_S256x8x77x64_S256x8x64x77_S256x8x77x77_3_2_2_3_01_01 none
      (headsF 0 slices_S256x77x1536_S256x77x512_0_0_0 q)
      (transpose S256x8x64x77 [0, 1, 3, 2] (headsF 512 slices_S256x77x1536_S256x77x512_0_0_512 q)
        transposes_S256x8x77x64_S256x8x64x77_0_1_3_2)) (scalarAt S256x8x77x77 bcast_S_S256x8x77x77 0x3E000000#32))
    (broadcastInDim S256x8x77x77 ![0, 1, 2, 3] bcast_S1x1x77x77_S256x8x77x77_0_1_2_3
      (broadcastInDim S1x1x77x77 ![2, 3] bcast_S77x77_S1x1x77x77_2_3 mask))

/-- A number per score row repeated over the row. -/
def overKeys (s : FVec Ideal S256x8x77 .f32) : FVec Ideal S256x8x77x77 .f32 :=
  broadcastInDim S256x8x77x77 ![0, 1, 2, 3] bcast_S256x8x77x1_S256x8x77x77_0_1_2_3
    (broadcastInDim S256x8x77x1 ![0, 1, 2] bcast_S256x8x77_S256x8x77x1_0_1_2 s)

/-- Each score row's largest score. -/
def maxF (s : FVec Ideal S256x8x77x77 .f32) : FVec Ideal S256x8x77 .f32 :=
  maximumf (scalarAt S256x8x77 bcast_S_S256x8x77 0xFF800000#32)
    (Host.reduce FloatOps.maximumf s (constant (F := Ideal) S_ .f32 0xFF800000#32) reducesTo_S256x8x77x77_S256x8x77_d3 h_S_)

/-- The exponentials of the shifted scores. -/
def expF (s : FVec Ideal S256x8x77x77 .f32) : FVec Ideal S256x8x77x77 .f32 :=
  Host.exp (subf s (overKeys (maxF s)))

/-- The exponentials divided by their row's sum. -/
def weightF (s : FVec Ideal S256x8x77x77 .f32) : FVec Ideal S256x8x77x77 .f32 :=
  Host.divf (expF s) (overKeys (Host.reduceAdd (expF s) (constant (F := Ideal) S_ .f32 0x00000000#32)
    reducesTo_S256x8x77x77_S256x8x77_d3 h_S_))

/-- The heads' outputs side by side. -/
def attF (mask : FVec Ideal S77x77 .f32) (q : FVec Ideal S256x77x1536 .f32) : FVec Ideal S256x77x512 .f32 :=
  shapeCast S256x77x512 (transpose S256x77x8x64 [0, 2, 1, 3]
    (Host.dotGeneral dot_S256x8x77x77_S256x8x77x64_S256x8x77x64_3_2_2_3_01_01 none (weightF (scoreF mask q))
      (headsF 1024 slices_S256x77x1536_S256x77x512_0_0_1024 q)) transposes_S256x8x77x64_S256x77x8x64_0_2_1_3)
    shapeCasts_S256x77x8x64_S256x77x512

/-- The rows plus the projected heads. -/
def resF (x o : FVec Ideal S256x77x512 .f32) (W : FVec Ideal S512x512 .f32) (b : FVec Ideal S512 .f32) :
    FVec Ideal S256x77x512 .f32 :=
  addf (addf x (Host.dotGeneral dot_S256x77x512_S512x512_S256x77x512_2_0_01_1_n_n none o W)) (overRows b)

/-- The hidden rows before the activation. -/
def preF (h : FVec Ideal S256x77x512 .f32) (W : FVec Ideal S512x2048 .f32) (c : FVec Ideal S2048 .f32) :
    FVec Ideal S256x77x2048 .f32 :=
  addf (Host.dotGeneral dot_S256x77x512_S512x2048_S256x77x2048_2_0_01_1_n_n none h W)
    (broadcastInDim S256x77x2048 ![0, 1, 2] bcast_S1x1x2048_S256x77x2048_0_1_2 (broadcastInDim S1x1x2048 ![2] bcast_S2048_S1x1x2048_2 c))

/-- The activation. -/
def geluF (g : FVec Ideal S256x77x2048 .f32) : FVec Ideal S256x77x2048 .f32 :=
  mulf g (Host.divf (scalarAt S256x77x2048 bcast_S_S256x77x2048 0x3F800000#32)
    (addf (scalarAt S256x77x2048 bcast_S_S256x77x2048 0x3F800000#32)
      (Host.exp (Host.negf (mulf (scalarAt S256x77x2048 bcast_S_S256x77x2048 0x3FD9DB23#32) g)))))

/-- The rows plus the perceptron's output. -/
def mlpF (x : FVec Ideal S256x77x512 .f32) (g : FVec Ideal S256x77x2048 .f32) (W : FVec Ideal S2048x512 .f32)
    (b : FVec Ideal S512 .f32) : FVec Ideal S256x77x512 .f32 :=
  addf (addf x (Host.dotGeneral dot_S256x77x2048_S2048x512_S256x77x512_2_0_01_1_n_n none g W)) (overRows b)

/-- The classes' rows projected and averaged over the templates. -/
def finF (x : FVec Ideal S256x77x512 .f32) (W : FVec Ideal S512x512 .f32) : FVec Ideal S1x64x512 .f32 :=
  Host.divf (broadcastInDim S1x64x512 ![1, 2] bcast_S64x512_S1x64x512_1_2
    (Host.reduceAdd (Host.dotGeneral dot_S4x64x512_S512x512_S4x64x512_2_0_01_1_n_n none
      (shapeCast S4x64x512 (shapeCast S256x512 (extractStridedSlice S256x1x512 ![0, 10, 0] x slices_S256x77x512_S256x1x512_0_10_0)
        shapeCasts_S256x1x512_S256x512) shapeCasts_S256x512_S4x64x512) W)
      (constant (F := Ideal) S_ .f32 0x00000000#32) reducesTo_S4x64x512_S64x512_d0 h_S_))
    (scalarAt S1x64x512 bcast_S_S1x64x512 0x40800000#32)

end Cert.ReferenceIdeal.Ops
-- ==== Proof.RReal.lean ====
/-
The reference's array computations over arrays of real numbers: each is the real-number mathematics of its rows.
-/
module

public import proofs.«01_k».proof.Proof.ROps

@[expose] public section

set_option maxRecDepth 16384

noncomputable section

namespace Cert.ReferenceIdeal.Ops

open Idealize.ShloMosaic Cert.ReferenceIdeal Cert.ReferenceIdeal.Gen Cert.Rows

/-- A one-axis array whose entries are the reals `V`. -/
abbrev Re1 {a : ℕ} (v : FVec Ideal ⟨1, ![a]⟩ .f32) (V : Fin a → ℝ) : Prop := ∀ c, v (ix1 c) = ((V c : ℝ) : EReal)

/-- A maximum from minus infinity over places that are never plus infinity, one of them above minus infinity, is a real. -/
theorem hostMax_real {s t u : Shape} {axes : List (Fin s.rank)} (x : FVec Ideal s .f32) (init : FVec Ideal u .f32)
    (y : FVec Ideal t .f32) (h : s.ReducesTo axes t) (hu : 0 < u.numel) (j : t.Idx) (hb : ∀ i, init i = ⊥)
    (hy : ∀ i, y i = ⊥) (hx : ∀ i, x i < (⊤ : EReal)) (i₀ : s.Idx) (hi : h.drop i₀ = j) (h₀ : (⊥ : EReal) < x i₀) :
    ∃ M : ℝ, maximumf y (Host.reduce FloatOps.maximumf x init h hu) j = (M : EReal) := by
  have e₁ : maximumf y (Host.reduce FloatOps.maximumf x init h hu) j =
      max (y j : EReal) (Host.reduce (max : EReal → EReal → EReal) x init h hu j) := rfl
  rw [e₁, hy, Host.reduce_eq_fold, hb, bot_sup_eq]
  have e : (Finset.univ.filter fun i => h.drop i = j).fold (max : EReal → EReal → EReal) ⊥ x =
      (Finset.univ.filter fun i => h.drop i = j).sup (x : s.Idx → EReal) := rfl
  rw [e]
  have hlb := Finset.le_sup (f := (x : s.Idx → EReal)) (s := Finset.univ.filter fun i => h.drop i = j)
    (by simpa using hi : i₀ ∈ _)
  have hlt : (Finset.univ.filter fun i => h.drop i = j).sup (x : s.Idx → EReal) < ⊤ := by
    rw [Finset.sup_lt_iff (by exact bot_lt_top)]
    exact fun i _ => hx i
  exact ⟨_, (EReal.coe_toReal hlt.ne (h₀.trans_le hlb).ne').symm⟩

variable {x o : FVec Ideal S256x77x512 .f32} {X O : Fin 256 → Fin 77 → Fin 512 → ℝ}

/-- Normalised rows are the reals' normalised rows. -/
theorem lnF_re {s b : FVec Ideal S512 .f32} {S B : Fin 512 → ℝ} (hx : Re3 x X) (hs : Re1 s S) (hb : Re1 b B) :
    Re3 (lnF x s b) fun r t => lnR (X r t) S B := by
  intro r t c
  pointwise [lnF, overCols, avgCols, overRows]
  simp only [hx _ _ _, hs _, hb _]
  exact ln_sqrt_coe (X r t) S B c

/-- Query, key and value rows are the reals'. -/
theorem qkvF_re {W : FVec Ideal S512x1536 .f32} {b : FVec Ideal S1536 .f32} {V : Fin 512 → Fin 1536 → ℝ}
    {B : Fin 1536 → ℝ} (hx : Re3 x X) (hW : Re2 W V) (hb : Re1 b B) :
    Re3 (qkvF x W b) fun r t j => lin V (X r t) j + B j := by
  intro r t j
  pointwise [qkvF]
  simp only [hx _ _ _, hW _ _, hb _, lin_coe, ← EReal.coe_add]

/-- Residual rows are the reals' residual rows. -/
theorem resF_re {W : FVec Ideal S512x512 .f32} {b : FVec Ideal S512 .f32} (P : Layer) (hx : Re3 x X)
    (ho : Re3 o O) (hW : Re2 W P.Wo) (hb : Re1 b P.bo) : Re3 (resF x o W b) fun r t => res P (X r t) (O r t) := by
  intro r t c
  pointwise [resF, overRows]
  simp only [hx _ _ _, ho _ _ _, hW _ _, hb _, lin_coe, ← EReal.coe_add]
  rfl

/-- Hidden rows are the reals' hidden rows. -/
theorem hidF_re {s b : FVec Ideal S512 .f32} {W : FVec Ideal S512x2048 .f32} {c : FVec Ideal S2048 .f32}
    (P : Layer) (hx : Re3 x X) (hs : Re1 s P.s2) (hb : Re1 b P.b2) (hW : Re2 W P.W1) (hc : Re1 c P.c1) :
    Re3 (geluF (preF (lnF x s b) W c)) fun r t => hid P (X r t) := by
  intro r t j
  have hl := lnF_re hx hs hb
  pointwise [geluF, preF]
  simp only [hl _ _ _, hW _ _, hc _, lin_coe, ← EReal.coe_add]
  exact gelu_coe' _

/-- Rows after the perceptron are the reals' rows after it. -/
theorem mlpF_re {g : FVec Ideal S256x77x2048 .f32} {W : FVec Ideal S2048x512 .f32} {b : FVec Ideal S512 .f32}
    (P : Layer) (hx : Re3 x X) (hg : Re3 g fun r t => hid P (X r t)) (hW : Re2 W P.W2) (hb : Re1 b P.c2) :
    Re3 (mlpF x g W b) fun r t => mlp P (X r t) := by
  intro r t c
  pointwise [mlpF, overRows]
  simp only [hx _ _ _, hg _ _ _, hW _ _, hb _, lin_coe, ← EReal.coe_add]
  rfl

section Att

variable {mask : FVec Ideal S77x77 .f32} {q : FVec Ideal S256x77x1536 .f32} {Q : Fin 256 → Fin 77 → Fin 1536 → ℝ}

/-- A masked score is the real score where the mask allows it, minus infinity elsewhere. -/
theorem scoreF_re (hm : ∀ t j : Fin 77, mask (ix2 t j) = if j ≤ t then 0 else ⊥) (hq : Re3 q Q) (r : Fin 256) (h : Fin 8)
    (t j : Fin 77) : scoreF mask q (ix4 r h t j) = ((score h (Q r t) (Q r j) : ℝ) : EReal) + if j ≤ t then 0 else ⊥ := by
  pointwise [scoreF, headsF]
  simp only [hq _ _ _, hm _ _, lit_eighth, ← EReal.coe_mul, ← coe_sum]
  congr 2
  rw [score, Finset.sum_mul]
  refine Finset.sum_congr rfl fun d _ => ?_
  have e : h.val * 64 + d.val = 64 * h.val + d.val := by omega
  simp only [e, ← Nat.add_assoc]
  ring

theorem drop_keys (r : Fin 256) (h : Fin 8) (t j : Fin 77) :
    Shape.ReducesTo.drop reducesTo_S256x8x77x77_S256x8x77_d3 (ix4 r h t j) = ix3 r h t := by
  funext b
  fin_cases b <;> rfl

/-- A row's largest masked score is a real number. -/
theorem maxF_re (hm : ∀ t j : Fin 77, mask (ix2 t j) = if j ≤ t then 0 else ⊥) (hq : Re3 q Q) (r : Fin 256) (h : Fin 8)
    (t : Fin 77) : ∃ M : ℝ, maxF (scoreF mask q) (ix3 r h t) = (M : EReal) := by
  have hc : ∀ i, constant (F := Ideal) S_ .f32 0xFF800000#32 i = ⊥ := fun i => by
    pointwise []
    exact lit_bot
  have hs : ∀ i, scalarAt S256x8x77 bcast_S_S256x8x77 0xFF800000#32 i = ⊥ := fun i => by
    pointwise []
    exact lit_bot
  have hx : ∀ i, scoreF mask q i < (⊤ : EReal) := fun i => by
    obtain ⟨a, b, c, d, rfl⟩ : ∃ (a : Fin 256) (b : Fin 8) (c d : Fin 77), i = ix4 a b c d :=
      ⟨i 0, i 1, i 2, i 3, (ix4_eta i).symm⟩
    rw [scoreF_re hm hq]
    split_ifs
    · rw [add_zero]; exact EReal.coe_lt_top _
    · rw [EReal.add_bot]; exact bot_lt_top
  refine hostMax_real (scoreF mask q) _ _ reducesTo_S256x8x77x77_S256x8x77_d3 h_S_ (ix3 r h t) hc hs hx
    (ix4 r h t 0) (drop_keys r h t 0) ?_
  rw [scoreF_re hm hq, if_pos (Fin.zero_le t), add_zero]
  exact EReal.bot_lt_coe _

/-- The heads side by side are the reals' attention. -/
theorem attF_re (hm : ∀ t j : Fin 77, mask (ix2 t j) = if j ≤ t then 0 else ⊥) (hq : Re3 q Q) :
    Re3 (attF mask q) fun r t => attn (fun j : Fin 77 => j ≤ t) (Q r t) (Q r) := by
  intro r t c
  obtain ⟨M, hM⟩ := maxF_re hm hq r ⟨c / 64, by omega⟩ t
  have hw : ∀ j, weightF (scoreF mask q) (ix4 r ⟨c / 64, by omega⟩ t j) = Ideal.div
      (Ideal.exp (((score ⟨c / 64, by omega⟩ (Q r t) (Q r j) : ℝ) : EReal) + (if j ≤ t then 0 else ⊥) - (M : EReal)))
      (∑ k, Ideal.exp (((score ⟨c / 64, by omega⟩ (Q r t) (Q r k) : ℝ) : EReal) + (if k ≤ t then 0 else ⊥) - (M : EReal))) := by
    intro j
    pointwise [weightF, overKeys, expF]
    simp only [scoreF_re hm hq, hM]
  pointwise [attF, headsF]
  simp only [hw, hq _ _ _]
  exact avg_shift_coe (fun j : Fin 77 => j ≤ t) (fun j => score ⟨c / 64, by omega⟩ (Q r t) (Q r j))
    (fun j => Q r j ⟨1024 + c, by omega⟩) ⟨t, le_refl t⟩ M

end Att

/-- The classes' rows at position ten, projected and averaged over the templates. -/
theorem finF_re {W : FVec Ideal S512x512 .f32} {V : Fin 512 → Fin 512 → ℝ} (hx : Re3 x X) (hW : Re2 W V) :
    Re3 (finF x W) fun _ n c => (∑ p : Fin 4, lin V (X ⟨p * 64 + n, by omega⟩ 10) c) / 4 := by
  intro a n c
  pointwise [finF]
  simp only [hx _ _ _, hW _ _, lin_coe, lit_four, ← coe_sum]
  exact div_real _ (by norm_num)

end Cert.ReferenceIdeal.Ops
-- ==== Proof.RForm.lean ====
/-
The reference's result over arrays of real numbers: two layers of the tower over every sequence, the rows at position
ten normalised, projected and averaged over the templates.
-/
module

public import proofs.«01_k».proof.Proof.RReal
public import proofs.«01_k».proof.Proof.KForm

@[expose] public section

set_option maxRecDepth 16384

noncomputable section

namespace Cert.ReferenceIdeal.Ops

open Idealize.ShloMosaic Cert.ReferenceIdeal Cert.ReferenceIdeal.Gen Cert.ReferenceIdeal.Read Cert.Rows

/-- One layer of the tower. -/
def layerF (mask : FVec Ideal S77x77 .f32) (x : FVec Ideal S256x77x512 .f32) (s1 b1 : FVec Ideal S512 .f32)
    (Wq : FVec Ideal S512x1536 .f32) (bq : FVec Ideal S1536 .f32) (Wo : FVec Ideal S512x512 .f32)
    (bo s2 b2 : FVec Ideal S512 .f32) (W1 : FVec Ideal S512x2048 .f32) (c1 : FVec Ideal S2048 .f32)
    (W2 : FVec Ideal S2048x512 .f32) (c2 : FVec Ideal S512 .f32) : FVec Ideal S256x77x512 .f32 :=
  let y := resF x (attF mask (qkvF (lnF x s1 b1) Wq bq)) Wo bo
  mlpF y (geluF (preF (lnF y s2 b2) W1 c1)) W2 c2

/-- The sequences' rows after a layer: position `t` attends to the positions up to it. -/
def seqStep (P : Layer) (X : Fin 256 → Fin 77 → Fin 512 → ℝ) (r : Fin 256) (t : Fin 77) : Fin 512 → ℝ :=
  step P (fun j : Fin 77 => j ≤ t) (X r t) fun j => qkv P (X r j)

/-- One layer is the reals' layer. -/
theorem layerF_re {mask : FVec Ideal S77x77 .f32} {x : FVec Ideal S256x77x512 .f32} {s1 b1 : FVec Ideal S512 .f32}
    {Wq : FVec Ideal S512x1536 .f32} {bq : FVec Ideal S1536 .f32} {Wo : FVec Ideal S512x512 .f32}
    {bo s2 b2 : FVec Ideal S512 .f32} {W1 : FVec Ideal S512x2048 .f32} {c1 : FVec Ideal S2048 .f32}
    {W2 : FVec Ideal S2048x512 .f32} {c2 : FVec Ideal S512 .f32} {X : Fin 256 → Fin 77 → Fin 512 → ℝ} (P : Layer)
    (hm : ∀ t j : Fin 77, mask (ix2 t j) = if j ≤ t then 0 else ⊥) (hx : Re3 x X) (hs1 : Re1 s1 P.s1) (hb1 : Re1 b1 P.b1)
    (hWq : Re2 Wq P.Wq) (hbq : Re1 bq P.bq) (hWo : Re2 Wo P.Wo) (hbo : Re1 bo P.bo) (hs2 : Re1 s2 P.s2)
    (hb2 : Re1 b2 P.b2) (hW1 : Re2 W1 P.W1) (hc1 : Re1 c1 P.c1) (hW2 : Re2 W2 P.W2) (hc2 : Re1 c2 P.c2) :
    Re3 (layerF mask x s1 b1 Wq bq Wo bo s2 b2 W1 c1 W2 c2) (seqStep P X) := by
  have hy := resF_re P hx (attF_re hm (qkvF_re (lnF_re hx hs1 hb1) hWq hbq)) hWo hbo
  exact mlpF_re P hy (hidF_re P hy hs2 hb2 hW1 hc1) hW2 hc2

/-- A pair of positions, compared as words. -/
theorem cmp_words : ∀ t j : Fin 77, IntOp.cmpi .sge (IntOp.addi (BitVec.ofNat 32 t) 0#32) (BitVec.ofNat 32 j) =
    if j ≤ t then 1#1 else 0#1 := by decide +kernel

/-- The causal mask: zero up to the position itself, minus infinity after it. -/
theorem mask_apply (t j : Fin 77) : val_main_v20 (F := Ideal) (ix2 t j) = if j ≤ t then 0 else ⊥ := by
  have : val_main_v20 (F := Ideal) = select
      (select (cmpi .sge (addi (iotaInDim S77x77 32 0) (broadcastInDim S77x77 ![] bcast_S_S77x77 (constantI S_ 32 0#32)))
          (iotaInDim S77x77 32 1))
        (broadcastInDim S77x77 ![] bcast_S_S77x77 (constantI S_ 1 0#1))
        (broadcastInDim S77x77 ![] bcast_S_S77x77 (constantI S_ 1 1#1)))
      (broadcastInDim S77x77 ![] bcast_S_S77x77 (constant (F := Ideal) S_ .f32 0xFF800000#32))
      (broadcastInDim S77x77 ![] bcast_S_S77x77 (constant (F := Ideal) S_ .f32 0x00000000#32)) := rfl
  rw [this]
  pointwise []
  rw [cmp_words, lit_bot]
  split_ifs <;> rfl

/-- The embeddings. -/
structure Emb where
  sos : Fin 512 → ℝ
  pad : Fin 512 → ℝ
  pre : Fin 4 → Fin 4 → Fin 512 → ℝ
  cls : Fin 64 → Fin 2 → Fin 512 → ℝ
  suf : Fin 3 → Fin 512 → ℝ
  eos : Fin 4 → Fin 512 → ℝ
  pos : Fin 77 → Fin 512 → ℝ

/-- The token row of template `p` and class `n` at position `t`. -/
def tok (E : Emb) (p : Fin 4) (n : Fin 64) (t : ℕ) : Fin 512 → ℝ :=
  if t < 1 then E.sos else if h : t - 1 < 4 then E.pre p ⟨t - 1, h⟩ else if h : t - 1 - 4 < 2 then E.cls n ⟨t - 1 - 4, h⟩
  else if h : t - 1 - 4 - 2 < 3 then E.suf ⟨t - 1 - 4 - 2, h⟩ else if t - 1 - 4 - 2 - 3 < 1 then E.eos p else E.pad

/-- The rows before the first layer. -/
def seq0 (E : Emb) (r : Fin 256) (t : Fin 77) : Fin 512 → ℝ := fun c =>
  tok E ⟨r / 64, by omega⟩ ⟨r % 64, by omega⟩ t c + E.pos t c

section

variable {x0 x1 : FVec Ideal S512 .f32} {x2 : FVec Ideal S4x4x512 .f32} {x3 : FVec Ideal S64x2x512 .f32}
  {x4 : FVec Ideal S3x512 .f32} {x5 : FVec Ideal S4x512 .f32} {x6 : FVec Ideal S77x512 .f32}

/-- The embeddings' arrays hold the reals `E`. -/
structure EmbReads (x0 x1 : FVec Ideal S512 .f32) (x2 : FVec Ideal S4x4x512 .f32) (x3 : FVec Ideal S64x2x512 .f32)
    (x4 : FVec Ideal S3x512 .f32) (x5 : FVec Ideal S4x512 .f32) (x6 : FVec Ideal S77x512 .f32) (E : Emb) : Prop where
  sos : Re1 x0 E.sos
  pad : Re1 x1 E.pad
  pre : Re3 x2 E.pre
  cls : Re3 x3 E.cls
  suf : Re2 x4 E.suf
  eos : Re2 x5 E.eos
  pos : Re2 x6 E.pos

/-- The rows before the first layer are the reals' rows. -/
theorem seq0_re {E : Emb} (h : EmbReads x0 x1 x2 x3 x4 x5 x6 E) :
    Re3 (val_main_v16 (F := Ideal) x0 x1 x2 x3 x4 x5 x6) (seq0 E) := by
  intro r t c
  pointwise [val_main_v16, val_main_v15, val_main_v14, val_main_v13, val_main_v12, val_main_v11, val_main_v10,
    val_main_v9, val_main_v8, val_main_v7, val_main_v6, val_main_v5, val_main_v4, val_main_v3, val_main_v2,
    val_main_v1, val_main_v0]
  simp only [h.sos _, h.pad _, h.pre _ _ _, h.cls _ _ _, h.suf _ _, h.eos _ _, h.pos _ _]
  unfold seq0 tok
  split_ifs <;> exact (EReal.coe_add _ _).symm

end

section

variable {x0 x1 : FVec Ideal S512 .f32} {x2 : FVec Ideal S4x4x512 .f32} {x3 : FVec Ideal S64x2x512 .f32}
  {x4 : FVec Ideal S3x512 .f32} {x5 : FVec Ideal S4x512 .f32} {x6 : FVec Ideal S77x512 .f32}
  {x7 x8 : FVec Ideal S2x512 .f32} {x9 : FVec Ideal S2x512x1536 .f32} {x10 : FVec Ideal S2x1536 .f32}
  {x11 : FVec Ideal S2x512x512 .f32} {x12 x13 x14 : FVec Ideal S2x512 .f32} {x15 : FVec Ideal S2x512x2048 .f32}
  {x16 : FVec Ideal S2x2048 .f32} {x17 : FVec Ideal S2x2048x512 .f32} {x18 : FVec Ideal S2x512 .f32}
  {x19 x20 : FVec Ideal S512 .f32} {x21 : FVec Ideal S512x512 .f32}

theorem layer0_eq : val_main_v149 (F := Ideal) x0 x1 x2 x3 x4 x5 x6 x7 x8 x9 x10 x11 x12 x13 x14 x15 x16 x17 x18 =
    layerF (val_main_v20 (F := Ideal)) (val_main_v16 (F := Ideal) x0 x1 x2 x3 x4 x5 x6)
      (val_main_v22 (F := Ideal) x7) (val_main_v24 (F := Ideal) x8) (val_main_v50 (F := Ideal) x9) (val_main_v53 (F := Ideal) x10) (val_main_v88 (F := Ideal) x11) (val_main_v92 (F := Ideal) x12) (val_main_v97 (F := Ideal) x13) (val_main_v99 (F := Ideal) x14) (val_main_v125 (F := Ideal) x15) (val_main_v128 (F := Ideal) x16) (val_main_v142 (F := Ideal) x17) (val_main_v146 (F := Ideal) x18) := rfl

theorem layer1_eq : val_main_v278 (F := Ideal) x0 x1 x2 x3 x4 x5 x6 x7 x8 x9 x10 x11 x12 x13 x14 x15 x16 x17 x18 =
    layerF (val_main_v20 (F := Ideal)) (val_main_v149 (F := Ideal) x0 x1 x2 x3 x4 x5 x6 x7 x8 x9 x10 x11 x12 x13 x14 x15 x16 x17 x18)
      (val_main_v151 (F := Ideal) x7) (val_main_v153 (F := Ideal) x8) (val_main_v179 (F := Ideal) x9) (val_main_v182 (F := Ideal) x10) (val_main_v217 (F := Ideal) x11) (val_main_v221 (F := Ideal) x12) (val_main_v226 (F := Ideal) x13) (val_main_v228 (F := Ideal) x14) (val_main_v254 (F := Ideal) x15) (val_main_v257 (F := Ideal) x16) (val_main_v271 (F := Ideal) x17) (val_main_v275 (F := Ideal) x18) := rfl

theorem last_eq : val_main_v310 (F := Ideal) x0 x1 x2 x3 x4 x5 x6 x7 x8 x9 x10 x11 x12 x13 x14 x15 x16 x17 x18 x19 x20 x21 =
    finF (lnF (val_main_v278 (F := Ideal) x0 x1 x2 x3 x4 x5 x6 x7 x8 x9 x10 x11 x12 x13 x14 x15 x16 x17 x18) x19 x20) x21 := rfl

/-- The rows after the first layer are the reals' rows. -/
theorem seq1_re {E : Emb} {P : Fin 2 → Layer} (he : EmbReads x0 x1 x2 x3 x4 x5 x6 E)
    (h : Cert.KernelIdeal.Ops.Reads x7 x8 x9 x10 x11 x12 x13 x14 x15 x16 x17 x18 P) :
    Re3 (val_main_v149 (F := Ideal) x0 x1 x2 x3 x4 x5 x6 x7 x8 x9 x10 x11 x12 x13 x14 x15 x16 x17 x18)
      (seqStep (P 0) (seq0 E)) := by
  rw [layer0_eq]
  exact layerF_re (P 0) mask_apply (seq0_re he)
    (fun c => by pointwise [val_main_v22, val_main_v21]; exact h.s1 0 c)
    (fun c => by pointwise [val_main_v24, val_main_v23]; exact h.b1 0 c)
    (fun k c => by pointwise [val_main_v50, val_main_v49]; exact h.Wq 0 k c)
    (fun c => by pointwise [val_main_v53, val_main_v52]; exact h.bq 0 c)
    (fun k c => by pointwise [val_main_v88, val_main_v87]; exact h.Wo 0 k c)
    (fun c => by pointwise [val_main_v92, val_main_v91]; exact h.bo 0 c)
    (fun c => by pointwise [val_main_v97, val_main_v96]; exact h.s2 0 c)
    (fun c => by pointwise [val_main_v99, val_main_v98]; exact h.b2 0 c)
    (fun k c => by pointwise [val_main_v125, val_main_v124]; exact h.W1 0 k c)
    (fun c => by pointwise [val_main_v128, val_main_v127]; exact h.c1 0 c)
    (fun k c => by pointwise [val_main_v142, val_main_v141]; exact h.W2 0 k c)
    (fun c => by pointwise [val_main_v146, val_main_v145]; exact h.c2 0 c)

/-- The rows after the second layer are the reals' rows. -/
theorem seq2_re {E : Emb} {P : Fin 2 → Layer} (he : EmbReads x0 x1 x2 x3 x4 x5 x6 E)
    (h : Cert.KernelIdeal.Ops.Reads x7 x8 x9 x10 x11 x12 x13 x14 x15 x16 x17 x18 P) :
    Re3 (val_main_v278 (F := Ideal) x0 x1 x2 x3 x4 x5 x6 x7 x8 x9 x10 x11 x12 x13 x14 x15 x16 x17 x18)
      (seqStep (P 1) (seqStep (P 0) (seq0 E))) := by
  rw [layer1_eq]
  exact layerF_re (P 1) mask_apply (seq1_re he h)
    (fun c => by pointwise [val_main_v151, val_main_v150]; exact h.s1 1 c)
    (fun c => by pointwise [val_main_v153, val_main_v152]; exact h.b1 1 c)
    (fun k c => by pointwise [val_main_v179, val_main_v178]; exact h.Wq 1 k c)
    (fun c => by pointwise [val_main_v182, val_main_v181]; exact h.bq 1 c)
    (fun k c => by pointwise [val_main_v217, val_main_v216]; exact h.Wo 1 k c)
    (fun c => by pointwise [val_main_v221, val_main_v220]; exact h.bo 1 c)
    (fun c => by pointwise [val_main_v226, val_main_v225]; exact h.s2 1 c)
    (fun c => by pointwise [val_main_v228, val_main_v227]; exact h.b2 1 c)
    (fun k c => by pointwise [val_main_v254, val_main_v253]; exact h.W1 1 k c)
    (fun c => by pointwise [val_main_v257, val_main_v256]; exact h.c1 1 c)
    (fun k c => by pointwise [val_main_v271, val_main_v270]; exact h.W2 1 k c)
    (fun c => by pointwise [val_main_v275, val_main_v274]; exact h.c2 1 c)

/-- The reference's result: the rows at position ten normalised, projected and averaged over the templates. -/
theorem result_re {E : Emb} {P : Fin 2 → Layer} {sf bf : Fin 512 → ℝ} {V : Fin 512 → Fin 512 → ℝ}
    (he : EmbReads x0 x1 x2 x3 x4 x5 x6 E)
    (h : Cert.KernelIdeal.Ops.Reads x7 x8 x9 x10 x11 x12 x13 x14 x15 x16 x17 x18 P) (hs : Re1 x19 sf) (hb : Re1 x20 bf)
    (hV : Re2 x21 V) :
    Re3 (val_main_v310 (F := Ideal) x0 x1 x2 x3 x4 x5 x6 x7 x8 x9 x10 x11 x12 x13 x14 x15 x16 x17 x18 x19 x20 x21)
      fun _ n c => (∑ p : Fin 4, lin V (lnR (seqStep (P 1) (seqStep (P 0) (seq0 E)) ⟨p * 64 + n, by omega⟩ 10) sf bf) c) / 4 := by
  rw [last_eq]
  exact finF_re (lnF_re (seq2_re he h) hs hb) hV

end

end Cert.ReferenceIdeal.Ops
-- ==== Proof.Match.lean ====
/-
The kernel's shared and own rows against the reference's sequences, over the reals: each kernel row is the row of a
sequence at a position, at the start and after each layer, and the two programs' final averages agree.
-/
module

public import proofs.«01_k».proof.Proof.KBlock
public import proofs.«01_k».proof.Proof.RForm

@[expose] public section

set_option maxRecDepth 16384

noncomputable section

namespace Cert.Match

open Idealize.ShloMosaic Cert.Rows Cert.KernelIdeal.Ops Cert.ReferenceIdeal.Ops

/-! ## Averages over two index sets -/

section

variable {ι κ : Type*} [Fintype ι] [Fintype κ] {al : ι → Prop} [DecidablePred al] {al' : κ → Prop} [DecidablePred al']

/-- Two averages whose allowed places correspond, with the same scores and values, are equal. -/
theorem avg_map (f : ι → κ) (hm : ∀ i, al i → al' (f i)) (hi : ∀ i j, al i → al j → f i = f j → i = j)
    (hs : ∀ k, al' k → ∃ i, al i ∧ f i = k) {s v : ι → ℝ} {s' v' : κ → ℝ} (h : ∀ i, al i → s i = s' (f i))
    (h' : ∀ i, al i → v i = v' (f i)) : avg al s v = avg al' s' v' := by
  have hb : ∀ (g : ι → ℝ) (g' : κ → ℝ), (∀ i, al i → g i = g' (f i)) →
      ∑ i ∈ Finset.univ.filter al, g i = ∑ k ∈ Finset.univ.filter al', g' k := by
    intro g g' hg
    refine Finset.sum_nbij f ?_ ?_ ?_ ?_
    · intro i hi
      simpa using hm i (by simpa using hi)
    · intro i h₁ j h₂ e
      exact hi i j (by simpa using h₁) (by simpa using h₂) e
    · intro k hk
      obtain ⟨i, h₁, h₂⟩ := hs k (by simpa using hk)
      exact ⟨i, by simpa using h₁, h₂⟩
    · intro i hi
      exact hg i (by simpa using hi)
  unfold avg
  rw [hb (fun i => Real.exp (s i) * v i) (fun k => Real.exp (s' k) * v' k) fun i hi => by rw [h i hi, h' i hi],
    hb (fun i => Real.exp (s i)) (fun k => Real.exp (s' k)) fun i hi => by rw [h i hi]]

/-- Two layers' rows whose allowed keys correspond are equal. -/
theorem step_map (P : Layer) (f : ι → κ) (hm : ∀ i, al i → al' (f i)) (hi : ∀ i j, al i → al j → f i = f j → i = j)
    (hs : ∀ k, al' k → ∃ i, al i ∧ f i = k) {x x' : Fin 512 → ℝ} {kv : ι → Fin 1536 → ℝ} {kv' : κ → Fin 1536 → ℝ}
    (hx : x = x') (h : ∀ i, al i → kv i = kv' (f i)) : step P al x kv = step P al' x' kv' := by
  subst hx
  unfold step
  congr 2
  funext c
  exact avg_map f hm hi hs (fun i hi => by rw [h i hi]) (fun i hi => by rw [h i hi])

end

/-! ## The tables -/

/-- The table of the rows every class and template share. -/
def shT (E : Emb) (k : Fin 32) : Fin 512 → ℝ :=
  if k.val < 1 then E.sos
  else if h : k.val - 1 < 16 then E.pre ⟨(k.val - 1) / 4, by omega⟩ ⟨(k.val - 1) % 4, by omega⟩
  else if k.val - 1 - 16 < 1 then E.pad
  else if h : k.val - 1 - 16 - 1 < 8 then E.pos ⟨k.val - 1 - 16 - 1, by omega⟩ else fun _ => 0

/-- The table of the rows every class shares. -/
def statT (E : Emb) (k : Fin 16) : Fin 512 → ℝ :=
  if h : k.val < 3 then E.suf ⟨k.val, h⟩
  else if h : k.val - 3 < 4 then E.eos ⟨k.val - 3, h⟩
  else if k.val - 3 - 4 < 1 then fun _ => 0
  else if h : k.val - 3 - 4 - 1 < 6 then E.pos ⟨5 + (k.val - 3 - 4 - 1), by omega⟩ else fun _ => 0

/-- Block `i`'s class rows. -/
def clsT (E : Emb) (i : Fin 2) (k : Fin 64) : Fin 512 → ℝ :=
  E.cls ⟨32 * i.val + k.val / 2, by omega⟩ ⟨k.val % 2, by omega⟩

/-- The sequence of an own row of block `i`. -/
def rowOf (i : Fin 2) (r : Fin 768) : Fin 256 := ⟨r.val / 192 * 64 + (32 * i.val + r.val % 192 / 6), by omega⟩

/-- The position of an own row. -/
def posOf (r : Fin 768) : Fin 77 := ⟨5 + r.val % 6, by omega⟩

/-- The shared rows agree with the sequences' rows at the positions zero to four. -/
def AgreeSh (X : Fin 32 → Fin 512 → ℝ) (Y : Fin 256 → Fin 77 → Fin 512 → ℝ) : Prop :=
  ∀ (r : Fin 32) (n : Fin 64), r.val % 8 ≤ 4 → X r = Y ⟨r.val / 8 * 64 + n.val, by omega⟩ ⟨r.val % 8, by omega⟩

/-- The own rows agree with their sequences' rows at the positions five to ten. -/
def AgreeOwn (i : Fin 2) (X : Fin 768 → Fin 512 → ℝ) (Y : Fin 256 → Fin 77 → Fin 512 → ℝ) : Prop :=
  ∀ r : Fin 768, X r = Y (rowOf i r) (posOf r)

section Rows

variable (E : Emb)

theorem shT_sos (k : Fin 32) (h : k.val = 0) : shT E k = E.sos := if_pos (by omega)

theorem shT_pre (k : Fin 32) (a b : Fin 4) (h : k.val = 1 + a.val * 4 + b.val) : shT E k = E.pre a b := by
  have ha : (⟨(k.val - 1) / 4, by omega⟩ : Fin 4) = a := Fin.ext (by simp only []; omega)
  have hb : (⟨(k.val - 1) % 4, by omega⟩ : Fin 4) = b := Fin.ext (by simp only []; omega)
  unfold shT
  rw [if_neg (by omega), dif_pos (by omega), ha, hb]

theorem shT_pos (k : Fin 32) (t : Fin 77) (h : k.val = 18 + t.val) (ht : t.val < 8) : shT E k = E.pos t := by
  have hp : (⟨k.val - 1 - 16 - 1, by omega⟩ : Fin 77) = t := Fin.ext (by simp only []; omega)
  unfold shT
  rw [if_neg (by omega), dif_neg (by omega), if_neg (by omega), dif_pos (by omega), hp]

theorem table_cls (i : Fin 2) (k : Fin 80) (n : Fin 64) (b : Fin 2) (c : ℕ) (hc : c < 32) (h : k.val = c * 2 + b.val)
    (hn : n.val = 32 * i.val + c) : table (clsT E i) (statT E) k = E.cls n b := by
  have hn' : (⟨32 * i.val + k.val / 2, by omega⟩ : Fin 64) = n := Fin.ext (by simp only []; omega)
  have hb : (⟨k.val % 2, by omega⟩ : Fin 2) = b := Fin.ext (by simp only []; omega)
  unfold table clsT
  rw [dif_pos (by omega)]
  simp only [hn', hb]

theorem table_suf (i : Fin 2) (k : Fin 80) (b : Fin 3) (h : k.val = 64 + b.val) :
    table (clsT E i) (statT E) k = E.suf b := by
  have hb : (⟨k.val - 64, by omega⟩ : Fin 3) = b := Fin.ext (by simp only []; omega)
  unfold table statT
  rw [dif_neg (by omega), dif_pos (by simp only []; omega)]
  simp only [hb]

theorem table_eos (i : Fin 2) (k : Fin 80) (b : Fin 4) (h : k.val = 67 + b.val) :
    table (clsT E i) (statT E) k = E.eos b := by
  have hb : (⟨k.val - 64 - 3, by omega⟩ : Fin 4) = b := Fin.ext (by simp only []; omega)
  unfold table statT
  rw [dif_neg (by omega), dif_neg (by simp only []; omega), dif_pos (by simp only []; omega)]
  simp only [hb]

theorem table_pos (i : Fin 2) (k : Fin 80) (t : Fin 77) (h : k.val = 67 + t.val) (h5 : 5 ≤ t.val) (h10 : t.val ≤ 10) :
    table (clsT E i) (statT E) k = E.pos t := by
  have hp : (⟨5 + (k.val - 64 - 3 - 4 - 1), by omega⟩ : Fin 77) = t := Fin.ext (by simp only []; omega)
  unfold table statT
  rw [dif_neg (by omega), dif_neg (by simp only []; omega), dif_neg (by simp only []; omega),
    if_neg (by simp only []; omega), dif_pos (by simp only []; omega)]
  simp only [hp]

theorem tok_pre (p : Fin 4) (n : Fin 64) (t : ℕ) (b : Fin 4) (h : t = 1 + b.val) : tok E p n t = E.pre p b := by
  have hb : (⟨t - 1, by omega⟩ : Fin 4) = b := Fin.ext (by simp only []; omega)
  unfold tok
  rw [if_neg (by omega), dif_pos (by omega), hb]

theorem tok_cls (p : Fin 4) (n : Fin 64) (t : ℕ) (b : Fin 2) (h : t = 5 + b.val) : tok E p n t = E.cls n b := by
  have hb : (⟨t - 1 - 4, by omega⟩ : Fin 2) = b := Fin.ext (by simp only []; omega)
  unfold tok
  rw [if_neg (by omega), dif_neg (by omega), dif_pos (by omega), hb]

theorem tok_suf (p : Fin 4) (n : Fin 64) (t : ℕ) (b : Fin 3) (h : t = 7 + b.val) : tok E p n t = E.suf b := by
  have hb : (⟨t - 1 - 4 - 2, by omega⟩ : Fin 3) = b := Fin.ext (by simp only []; omega)
  unfold tok
  rw [if_neg (by omega), dif_neg (by omega), dif_neg (by omega), dif_pos (by omega), hb]

theorem tok_eos (p : Fin 4) (n : Fin 64) (t : ℕ) (h : t = 10) : tok E p n t = E.eos p := by
  unfold tok
  rw [if_neg (by omega), dif_neg (by omega), dif_neg (by omega), dif_neg (by omega), if_pos (by omega)]

end Rows

/-- The shared rows agree with the sequences' rows at the start. -/
theorem agreeSh0 (E : Emb) : AgreeSh (rowsSh (shT E)) (seq0 E) := by
  intro r n hr
  have h8 := r.isLt
  have hn := n.isLt
  funext c
  have e1 : (r.val / 8 * 64 + n.val) / 64 = r.val / 8 := by omega
  have hp := shT_pos E ⟨18 + r.val % 8, by omega⟩ ⟨r.val % 8, by omega⟩ rfl (by simp only []; omega)
  have ht : shT E ⟨tokSh r, by unfold tokSh; split_ifs <;> omega⟩ =
      tok E ⟨r.val / 8, by omega⟩ ⟨(r.val / 8 * 64 + n.val) % 64, by omega⟩ (r.val % 8) := by
    by_cases h0 : r.val % 8 = 0
    · rw [shT_sos E _ (if_pos h0)]
      exact (if_pos (by omega)).symm
    · rw [shT_pre E _ ⟨r.val / 8, by omega⟩ ⟨r.val % 8 - 1, by omega⟩ ((if_neg h0).trans (if_pos hr)),
        tok_pre E _ _ _ ⟨r.val % 8 - 1, by omega⟩ (by simp only []; omega)]
  show shT E ⟨tokSh r, _⟩ c + shT E ⟨18 + r.val % 8, _⟩ c = _
  rw [hp, ht]
  simp only [seq0, e1]

/-- The own rows agree with their sequences' rows at the start. -/
theorem agreeOwn0 (E : Emb) (i : Fin 2) : AgreeOwn i (rowsOwn (clsT E i) (statT E)) (seq0 E) := by
  intro r
  have h8 := r.isLt
  have hi := i.isLt
  funext c
  have e1 : (r.val / 192 * 64 + (32 * i.val + r.val % 192 / 6)) / 64 = r.val / 192 := by omega
  have e2 : (r.val / 192 * 64 + (32 * i.val + r.val % 192 / 6)) % 64 = 32 * i.val + r.val % 192 / 6 := by omega
  have hp := table_pos E i ⟨72 + r.val % 6, by omega⟩ (posOf r) (by simp only [posOf]; omega)
    (by simp only [posOf]; omega) (by simp only [posOf]; omega)
  have ht : table (clsT E i) (statT E) ⟨tokOwn r, by unfold tokOwn; split_ifs <;> omega⟩ =
      tok E ⟨r.val / 192, by omega⟩ ⟨32 * i.val + r.val % 192 / 6, by omega⟩ (5 + r.val % 6) := by
    by_cases h2 : r.val % 6 < 2
    · rw [table_cls E i _ ⟨32 * i.val + r.val % 192 / 6, by omega⟩ ⟨r.val % 6, h2⟩ (r.val % 192 / 6) (by omega)
        (if_pos h2) rfl, tok_cls E _ _ _ ⟨r.val % 6, h2⟩ rfl]
    · by_cases h5 : r.val % 6 < 5
      · rw [table_suf E i _ ⟨r.val % 6 - 2, by omega⟩ ((if_neg h2).trans (if_pos h5)),
          tok_suf E _ _ _ ⟨r.val % 6 - 2, by omega⟩ (by simp only []; omega)]
      · rw [table_eos E i _ ⟨r.val / 192, by omega⟩ ((if_neg h2).trans (if_neg h5)), tok_eos E _ _ _ (by omega)]
  show table (clsT E i) (statT E) ⟨tokOwn r, _⟩ c + table (clsT E i) (statT E) ⟨72 + r.val % 6, _⟩ c = _
  rw [hp, ht]
  simp only [seq0, rowOf, posOf, e1, e2]

/-! ## The layers -/

theorem agreeSh_step (P : Layer) {X : Fin 32 → Fin 512 → ℝ} {Y : Fin 256 → Fin 77 → Fin 512 → ℝ} (h : AgreeSh X Y) :
    AgreeSh (stepSh P X) (seqStep P Y) := by
  intro r n hr
  have h8 := r.isLt
  refine step_map P (fun k : Fin 32 => (⟨k.val % 8, by omega⟩ : Fin 77)) ?_ ?_ ?_ (h r n hr) ?_
  · rintro k ⟨_, hk, _⟩
    exact hk
  · rintro a b ⟨ha, _, _⟩ ⟨hb, _, _⟩ e
    have := congrArg Fin.val e
    simp only [] at this
    exact Fin.ext (by omega)
  · intro k hk
    have hk' : k.val ≤ r.val % 8 := hk
    refine ⟨⟨r.val / 8 * 8 + k.val, by omega⟩, ⟨?_, ?_, ?_⟩, Fin.ext ?_⟩ <;> simp only [] <;> omega
  · rintro k ⟨hk, _, h4⟩
    rw [h k n h4]
    simp only [hk]

theorem agreeOwn_step (P : Layer) {i : Fin 2} {S : Fin 32 → Fin 512 → ℝ} {X : Fin 768 → Fin 512 → ℝ}
    {Y : Fin 256 → Fin 77 → Fin 512 → ℝ} (hS : AgreeSh S Y) (h : AgreeOwn i X Y) :
    AgreeOwn i (stepOwn P S X) (seqStep P Y) := by
  intro r
  have h8 := r.isLt
  have hi := i.isLt
  refine step_map P (fun k : Fin 104 => (⟨if k.val ≤ 4 then k.val else 5 + (k.val - 8) % 6, by split_ifs <;> omega⟩ : Fin 77))
    ?_ ?_ ?_ (h r) ?_
  · intro k hk
    show (if k.val ≤ 4 then k.val else 5 + (k.val - 8) % 6) ≤ 5 + r.val % 6
    rcases hk with hk | ⟨h1, h2, h3⟩
    · rw [if_pos hk]; omega
    · rw [if_neg (by omega)]; omega
  · intro a b ha hb e
    have e' : (if a.val ≤ 4 then a.val else 5 + (a.val - 8) % 6) = if b.val ≤ 4 then b.val else 5 + (b.val - 8) % 6 :=
      congrArg Fin.val e
    refine Fin.ext ?_
    rcases ha with ha | ⟨a1, a2, a3⟩ <;> rcases hb with hb | ⟨b1, b2, b3⟩
    · rwa [if_pos ha, if_pos hb] at e'
    · rw [if_pos ha, if_neg (by omega)] at e'; omega
    · rw [if_neg (by omega), if_pos hb] at e'; omega
    · rw [if_neg (by omega), if_neg (by omega)] at e'; omega
  · intro k hk
    have hk' : k.val ≤ 5 + r.val % 6 := hk
    by_cases h4 : k.val ≤ 4
    · exact ⟨⟨k.val, by omega⟩, Or.inl h4, Fin.ext (if_pos h4)⟩
    · refine ⟨⟨8 + r.val % 96 / 6 * 6 + (k.val - 5), by omega⟩, Or.inr ⟨?_, ?_, ?_⟩, Fin.ext ?_⟩
      · simp only []; omega
      · simp only []; omega
      · simp only []; omega
      · simp only []
        rw [if_neg (by omega)]
        omega
  · intro k hk
    unfold keys
    by_cases h4 : k.val ≤ 4
    · rw [dif_pos (by omega)]
      have e := hS ⟨r.val / 96 / 2 * 8 + k.val, by omega⟩ ⟨32 * i.val + r.val % 192 / 6, by omega⟩ (by simp only []; omega)
      simp only [if_pos h4]
      rw [e]
      congr 2
      · simp only [rowOf, Fin.mk.injEq]; omega
      · simp only [Fin.mk.injEq]; omega
    · rcases hk with hk | ⟨h1, h2, h3⟩
      · exact absurd hk h4
      · rw [dif_neg (by omega)]
        simp only [if_neg h4]
        rw [h]
        congr 2
        · simp only [rowOf, Fin.mk.injEq]; omega
        · simp only [posOf, Fin.mk.injEq]; omega

/-- The own rows after both layers are the sequences' rows after both layers. -/
theorem agreeOwn2 (P : Fin 2 → Layer) (E : Emb) (i : Fin 2) :
    AgreeOwn i (rowsOwnAt P (shT E) (clsT E i) (statT E) 2) (seqStep (P 1) (seqStep (P 0) (seq0 E))) :=
  agreeOwn_step (P 1) (agreeSh_step (P 0) (agreeSh0 E)) (agreeOwn_step (P 0) (agreeSh0 E) (agreeOwn0 E i))

/-! ## The final averages -/

/-- A sum with the final weights is a quarter of the sum over the templates. -/
theorem sum_quarter (c : Fin 32) (g : Fin 768 → ℝ) :
    ∑ r, quarter c r * g r = (∑ p : Fin 4, g ⟨p.val * 192 + c.val * 6 + 5, by omega⟩) / 4 := by
  have hc := c.isLt
  have e : ∀ r, quarter c r * g r = if r.val % 6 = 5 ∧ r.val % 192 / 6 = c.val then g r / 4 else 0 := by
    intro r
    unfold quarter
    split_ifs
    · ring
    · ring
  simp only [e]
  rw [← Finset.sum_filter, Finset.sum_div]
  refine Finset.sum_nbij' (fun r : Fin 768 => (⟨r.val / 192, by omega⟩ : Fin 4))
    (fun p : Fin 4 => (⟨p.val * 192 + c.val * 6 + 5, by omega⟩ : Fin 768)) ?_ ?_ ?_ ?_ ?_
  · intro r _
    exact Finset.mem_univ _
  · intro p _
    have := p.isLt
    simp only [Finset.mem_filter, Finset.mem_univ, true_and]
    omega
  · intro r hr
    simp only [Finset.mem_filter, Finset.mem_univ, true_and] at hr
    exact Fin.ext (by simp only []; omega)
  · intro p _
    exact Fin.ext (by simp only []; omega)
  · intro r hr
    simp only [Finset.mem_filter, Finset.mem_univ, true_and] at hr
    congr 2
    exact Fin.ext (by simp only []; omega)

/-- The kernel's projected average of rows is the reference's average of projected rows. -/
theorem final_eq (P : Fin 2 → Layer) (E : Emb) (i : Fin 2) (c : Fin 32) (d : Fin 512) (sf bf : Fin 512 → ℝ)
    (V : Fin 512 → Fin 512 → ℝ) :
    lin V (fun k => ∑ r, quarter c r * lnR (rowsOwnAt P (shT E) (clsT E i) (statT E) 2 r) sf bf k) d =
      (∑ p : Fin 4, lin V (lnR (seqStep (P 1) (seqStep (P 0) (seq0 E))
        ⟨p.val * 64 + (32 * i.val + c.val), by omega⟩ 10) sf bf) d) / 4 := by
  have hr : ∀ p : Fin 4, rowsOwnAt P (shT E) (clsT E i) (statT E) 2 ⟨p.val * 192 + c.val * 6 + 5, by omega⟩ =
      seqStep (P 1) (seqStep (P 0) (seq0 E)) ⟨p.val * 64 + (32 * i.val + c.val), by omega⟩ 10 := by
    intro p
    have hc := c.isLt
    have hp := p.isLt
    rw [agreeOwn2]
    congr 1
    · simp only [rowOf, Fin.mk.injEq]; omega
    · exact Fin.ext (by show 5 + (p.val * 192 + c.val * 6 + 5) % 6 = 10; omega)
  simp only [sum_quarter c fun r => lnR (rowsOwnAt P (shT E) (clsT E i) (statT E) 2 r) sf bf _, hr]
  unfold lin
  simp only [div_mul_eq_mul_div, Finset.sum_mul]
  rw [← Finset.sum_div, Finset.sum_comm]

end Cert.Match
-- ==== Proof.Entry.lean ====
/-
  The arrays the kernel's region finds, and their blocks, read back to the arguments: the three row tables and the two
  final scales are built by host operations before the region, every other window is an argument array whole.
-/
module

public import proofs.«01_k».proof.Proof.Match
public import proofs.«01_k».proof.Proof.KBlock
public import proofs.«01_k».proof.Proof.RForm
public import proofs.«01_k».proof.Proof.Gen.KernelIdeal.Value
public import Idealize.ShloMosaic.Lib.Pipeline.ValueKit
public import Idealize.ShloMosaic.Lib.Claim
public import Idealize.ShloMosaic.Lib.Pointwise

@[expose] public section

set_option maxRecDepth 16384

noncomputable section

namespace Cert.KernelIdeal.Entry

open Cert.KernelIdeal Cert.KernelIdeal.Gen Idealize.ShloMosaic Idealize.ShloMosaic.TcCoe
open Cert.Rows Cert.Match Cert.ReferenceIdeal.Ops
open Idealize.ShloMosaic.Pipeline (Dat)

variable (m : (ℓ : Loc nD τ sig) → Buf (Elt Ideal) ℓ) (c : Dev nD)

/-- Every window's block index at a grid point. -/
theorem idx : ∀ t : Fin cfg0.N, win0_0.index t = ![t.val, 0] ∧ win0_1.index t = ![0, 0] ∧ win0_2.index t = ![0, 0]
    ∧ win0_3.index t = ![0, 0]
    ∧ win0_4.index t = ![0, 0]
    ∧ win0_5.index t = ![0, 0, 0]
    ∧ win0_6.index t = ![0, 0]
    ∧ win0_7.index t = ![0, 0, 0]
    ∧ win0_8.index t = ![0, 0]
    ∧ win0_9.index t = ![0, 0]
    ∧ win0_10.index t = ![0, 0]
    ∧ win0_11.index t = ![0, 0, 0]
    ∧ win0_12.index t = ![0, 0]
    ∧ win0_13.index t = ![0, 0, 0]
    ∧ win0_14.index t = ![0, 0]
    ∧ win0_15.index t = ![0, 0]
    ∧ win0_16.index t = ![0, 0]
    ∧ win0_17.index t = ![0, 0]
    ∧ win0_18.index t = ![0, t.val, 0] :=
  (by decide +kernel : ∀ t : Fin grid0.N, _)

/-- Window 3's block is its argument array whole. -/
theorem blk3 (t : Fin cfg0.N) : iblk m c 3 t = m ((c : Thread nD τ).loc main_arg7) := by
  blk_ext! [iblk, V, idx t]

/-- Window 4's block is its argument array whole. -/
theorem blk4 (t : Fin cfg0.N) : iblk m c 4 t = m ((c : Thread nD τ).loc main_arg8) := by
  blk_ext! [iblk, V, idx t]

/-- Window 5's block is its argument array whole. -/
theorem blk5 (t : Fin cfg0.N) : iblk m c 5 t = m ((c : Thread nD τ).loc main_arg9) := by
  blk_ext! [iblk, V, idx t]

/-- Window 6's block is its argument array whole. -/
theorem blk6 (t : Fin cfg0.N) : iblk m c 6 t = m ((c : Thread nD τ).loc main_arg10) := by
  blk_ext! [iblk, V, idx t]

/-- Window 7's block is its argument array whole. -/
theorem blk7 (t : Fin cfg0.N) : iblk m c 7 t = m ((c : Thread nD τ).loc main_arg11) := by
  blk_ext! [iblk, V, idx t]

/-- Window 8's block is its argument array whole. -/
theorem blk8 (t : Fin cfg0.N) : iblk m c 8 t = m ((c : Thread nD τ).loc main_arg12) := by
  blk_ext! [iblk, V, idx t]

/-- Window 9's block is its argument array whole. -/
theorem blk9 (t : Fin cfg0.N) : iblk m c 9 t = m ((c : Thread nD τ).loc main_arg13) := by
  blk_ext! [iblk, V, idx t]

/-- Window 10's block is its argument array whole. -/
theorem blk10 (t : Fin cfg0.N) : iblk m c 10 t = m ((c : Thread nD τ).loc main_arg14) := by
  blk_ext! [iblk, V, idx t]

/-- Window 11's block is its argument array whole. -/
theorem blk11 (t : Fin cfg0.N) : iblk m c 11 t = m ((c : Thread nD τ).loc main_arg15) := by
  blk_ext! [iblk, V, idx t]

/-- Window 12's block is its argument array whole. -/
theorem blk12 (t : Fin cfg0.N) : iblk m c 12 t = m ((c : Thread nD τ).loc main_arg16) := by
  blk_ext! [iblk, V, idx t]

/-- Window 13's block is its argument array whole. -/
theorem blk13 (t : Fin cfg0.N) : iblk m c 13 t = m ((c : Thread nD τ).loc main_arg17) := by
  blk_ext! [iblk, V, idx t]

/-- Window 14's block is its argument array whole. -/
theorem blk14 (t : Fin cfg0.N) : iblk m c 14 t = m ((c : Thread nD τ).loc main_arg18) := by
  blk_ext! [iblk, V, idx t]

/-- Window 17's block is its argument array whole. -/
theorem blk17 (t : Fin cfg0.N) : iblk m c 17 t = m ((c : Thread nD τ).loc main_arg21) := by
  blk_ext! [iblk, V, idx t]

/-- Window 0's block at a point: the rows of the thirty-two classes of that point, two to a class. -/
theorem blk0 (t : Fin cfg0.N) (r : Fin 64) (k : Fin 512) (h : 32 * t.val + r.val / 2 < 64) :
    iblk m c 0 t (ix2 r k) = m ((c : Thread nD τ).loc main_arg3) (ix3 ⟨32 * t.val + r.val / 2, h⟩ ⟨r.val % 2, by omega⟩ k) := by
  blk_ext! [iblk, V, idx t]

/-- Window 15's block is the final scale, as one row. -/
theorem blk15 (t : Fin cfg0.N) (r : Fin 1) (k : Fin 512) :
    iblk m c 15 t (ix2 r k) = m ((c : Thread nD τ).loc main_arg19) (ix1 k) := by
  blk_ext! [iblk, V, idx t]

/-- Window 16's block is the final shift, as one row. -/
theorem blk16 (t : Fin cfg0.N) (r : Fin 1) (k : Fin 512) :
    iblk m c 16 t (ix2 r k) = m ((c : Thread nD τ).loc main_arg20) (ix1 k) := by
  blk_ext! [iblk, V, idx t]

/-- The table of the prompt rows, as the host operations build it. -/
def shV (x0 x1 : FVec Ideal S512 .f32) (x2 : FVec Ideal S4x4x512 .f32) (x6 : FVec Ideal S77x512 .f32) :
    FVec Ideal S32x512 .f32 :=
  concatenate S32x512 0
    [⟨S1x512, broadcastInDim S1x512 ![1] Gen.bcast_S512_S1x512_1 x0⟩,
     ⟨S16x512, shapeCast S16x512 x2 Gen.shapeCasts_S4x4x512_S16x512⟩,
     ⟨S1x512, broadcastInDim S1x512 ![1] Gen.bcast_S512_S1x512_1 x1⟩,
     ⟨S8x512, extractStridedSlice S8x512 ![0, 0] x6 Gen.slices_S77x512_S8x512_0_0⟩,
     ⟨S6x512, broadcastInDim S6x512 ![] Gen.bcast_S_S6x512 (constant (F := Ideal) S_ .f32 0x00000000#32)⟩]
    Gen.concatenates_S1x512_S16x512_S1x512_S8x512_S6x512_S32x512_d0

/-- The table of the rows every class shares, as the host operations build it. -/
def statV (x4 : FVec Ideal S3x512 .f32) (x5 : FVec Ideal S4x512 .f32) (x6 : FVec Ideal S77x512 .f32) :
    FVec Ideal S16x512 .f32 :=
  concatenate S16x512 0
    [⟨S3x512, x4⟩, ⟨S4x512, x5⟩,
     ⟨S1x512, broadcastInDim S1x512 ![] Gen.bcast_S_S1x512 (constant (F := Ideal) S_ .f32 0x00000000#32)⟩,
     ⟨S6x512, extractStridedSlice S6x512 ![5, 0] x6 Gen.slices_S77x512_S6x512_5_0⟩,
     ⟨S2x512, broadcastInDim S2x512 ![] Gen.bcast_S_S2x512 (constant (F := Ideal) S_ .f32 0x00000000#32)⟩]
    Gen.concatenates_S3x512_S4x512_S1x512_S6x512_S2x512_S16x512_d0

/-- The prompt table's buffer when the region is entered. -/
theorem entry9 : V m c main_v9 = shV (m ((c : Thread nD τ).loc main_arg0)) (m ((c : Thread nD τ).loc main_arg1))
    (m ((c : Thread nD τ).loc main_arg2)) (m ((c : Thread nD τ).loc main_arg6)) := by
  unfold_abbrev_sides
  after_results
  rfl

/-- The shared table's buffer when the region is entered. -/
theorem entry3 : V m c main_v3 = statV (m ((c : Thread nD τ).loc main_arg4)) (m ((c : Thread nD τ).loc main_arg5))
    (m ((c : Thread nD τ).loc main_arg6)) := by
  unfold_abbrev_sides
  after_results
  rfl

/-- Window 2's block is the whole table of the prompt rows. -/
theorem blk2 (t : Fin cfg0.N) : iblk m c 2 t = V m c main_v9 := by
  blk_ext! [iblk, idx t]

/-- Window 1's block is the whole table of the shared rows. -/
theorem blk1 (t : Fin cfg0.N) : iblk m c 1 t = V m c main_v3 := by
  blk_ext! [iblk, idx t]

variable {m c}
variable {E : Emb} (he : EmbReads (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) E)

include he

/-- The prompt table's real numbers. -/
theorem sh_re (t : Fin cfg0.N) : Re2 (iblk m c 2 t : FVec Ideal S32x512 .f32) (shT E) := by
  intro r k
  rw [blk2, entry9]
  have z : Ideal.ofBits .f32 0x00000000#32 = ((0 : ℝ) : EReal) := by simp [Ideal.ofBits, Ideal.ieee]
  have h0 := he.sos; have h1 := he.pad; have h2 := he.pre; have h6 := he.pos
  pointwise [shV]
  simp only [h0 _, h1 _, h2 _ _ _, h6 _ _, z]
  unfold shT
  split_ifs <;> first | rfl | simp

/-- The shared table's real numbers. -/
theorem stat_re (t : Fin cfg0.N) : Re2 (iblk m c 1 t : FVec Ideal S16x512 .f32) (statT E) := by
  intro r k
  rw [blk1, entry3]
  have z : Ideal.ofBits .f32 0x00000000#32 = ((0 : ℝ) : EReal) := by simp [Ideal.ofBits, Ideal.ieee]
  have h4 := he.suf; have h5 := he.eos; have h6 := he.pos
  pointwise [statV]
  simp only [h4 _ _, h5 _ _, h6 _ _, z]
  unfold statT
  split_ifs <;> first | rfl | simp

/-- The class rows of point `t`. -/
theorem cls_re (t : Fin cfg0.N) (ht : t.val < 2) : Re2 (iblk m c 0 t : FVec Ideal S64x512 .f32) (clsT E ⟨t.val, ht⟩) := by
  intro r k
  rw [blk0 m c t r k (by have := r.isLt; omega)]
  exact he.cls _ _ _

end Cert.KernelIdeal.Entry

end
-- ==== Proof.Finite.lean ====
/-
  What the precondition `finite` says at the ideal instance: every entry of every argument array is a real number.
  `abs(a) < inf` holds at an extended real exactly where it is neither infinity; the conjunction over all entries
  and all twenty-two arrays is read apart here.
-/
module

public import proofs.«01_k».proof.Defs
public import proofs.«01_k».proof.Proof.Gen.Pre_finite
public import Idealize.ShloMosaic.Lib.ReduceAll
public import Idealize.ShloMosaic.Lib.WordCmp

@[expose] public section

noncomputable section

namespace Cert.Pre_finite.Ops

open Cert.Pre_finite Idealize.ShloMosaic

/-- Every entry of the array is a real number. -/
def AllReal {s : Shape} (x : FVec Ideal s .f32) : Prop := ∀ i, ∃ r : ℝ, x i = (r : EReal)

/-- An extended real whose absolute value compares below the pattern of infinity is a real number. -/
theorem real_of_lt (a : EReal) (h : Ideal.cmp .olt (max a (-a)) (Ideal.ofBits .f32 0x7F800000#32) = 1#1) :
    ∃ r : ℝ, a = (r : EReal) := by
  have e : Ideal.ofBits .f32 0x7F800000#32 = (⊤ : EReal) := by simp [Ideal.ofBits, Ideal.ieee]
  rw [e] at h
  induction a with
  | bot => exact absurd h (by simp [Ideal.cmp])
  | top => exact absurd h (by simp [Ideal.cmp])
  | coe r => exact ⟨r, rfl⟩

/-- If the conjunction over all entries of `abs(x) < inf` is true, every entry is a real number. -/
theorem all_real {s : Shape} {axes : List (Fin s.rank)} (x : FVec Ideal s .f32) (d : Fin S_.rank → Fin s.rank)
    (hb : S_.BroadcastsInDim s d) (hr : s.ReducesTo axes S_)
    (hu : 0 < S_.numel) (j : S_.Idx)
    (e : Host.reduce IntOp.andi (cmpf .olt (Host.absf x) (broadcastInDim s d hb (constant S_ .f32 0x7F800000#32)))
      (constantI S_ 1 1#1) hr hu j = 1#1) : AllReal x := fun i =>
  haveI : Subsingleton S_.Idx := ⟨fun a b => funext fun k => k.elim0⟩
  real_of_lt (x i) (Host.reduce_andi_all _ _ _ _ j e i)

/-- The precondition, read: all twenty-two argument arrays hold real numbers. -/
theorem reals (x0 : FVec Ideal S512 .f32) (x1 : FVec Ideal S512 .f32) (x2 : FVec Ideal S4x4x512 .f32) (x3 : FVec Ideal S64x2x512 .f32) (x4 : FVec Ideal S3x512 .f32) (x5 : FVec Ideal S4x512 .f32) (x6 : FVec Ideal S77x512 .f32) (x7 : FVec Ideal S2x512 .f32) (x8 : FVec Ideal S2x512 .f32) (x9 : FVec Ideal S2x512x1536 .f32) (x10 : FVec Ideal S2x1536 .f32) (x11 : FVec Ideal S2x512x512 .f32) (x12 : FVec Ideal S2x512 .f32) (x13 : FVec Ideal S2x512 .f32) (x14 : FVec Ideal S2x512 .f32) (x15 : FVec Ideal S2x512x2048 .f32) (x16 : FVec Ideal S2x2048 .f32) (x17 : FVec Ideal S2x2048x512 .f32) (x18 : FVec Ideal S2x512 .f32) (x19 : FVec Ideal S512 .f32) (x20 : FVec Ideal S512 .f32) (x21 : FVec Ideal S512x512 .f32)
    (j : S_.Idx) (h : Cert.Pre_finite.fn (F := Ideal) x0 x1 x2 x3 x4 x5 x6 x7 x8 x9 x10 x11 x12 x13 x14 x15 x16 x17 x18 x19 x20 x21 j = 1#1) :
    AllReal x0 ∧ AllReal x1 ∧ AllReal x2 ∧ AllReal x3 ∧ AllReal x4 ∧ AllReal x5 ∧ AllReal x6 ∧ AllReal x7 ∧ AllReal x8 ∧ AllReal x9 ∧ AllReal x10 ∧ AllReal x11 ∧ AllReal x12 ∧ AllReal x13 ∧ AllReal x14 ∧ AllReal x15 ∧ AllReal x16 ∧ AllReal x17 ∧ AllReal x18 ∧ AllReal x19 ∧ AllReal x20 ∧ AllReal x21 := by
  unfold fn fn_part1 fn_part2 fn_part3 fn_part4 fn_part5 fn_part6 at h
  simp only [andi, IntOp.andi_eq_one] at h
  obtain ⟨⟨⟨⟨⟨⟨⟨⟨⟨⟨⟨⟨⟨⟨⟨⟨⟨⟨⟨⟨⟨⟨-, h0⟩, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩ := h
  exact ⟨all_real _ _ _ _ _ _ h0, all_real _ _ _ _ _ _ h1, all_real _ _ _ _ _ _ h2, all_real _ _ _ _ _ _ h3, all_real _ _ _ _ _ _ h4, all_real _ _ _ _ _ _ h5, all_real _ _ _ _ _ _ h6, all_real _ _ _ _ _ _ h7, all_real _ _ _ _ _ _ h8, all_real _ _ _ _ _ _ h9, all_real _ _ _ _ _ _ h10, all_real _ _ _ _ _ _ h11, all_real _ _ _ _ _ _ h12, all_real _ _ _ _ _ _ h13, all_real _ _ _ _ _ _ h14, all_real _ _ _ _ _ _ h15, all_real _ _ _ _ _ _ h16, all_real _ _ _ _ _ _ h17, all_real _ _ _ _ _ _ h18, all_real _ _ _ _ _ _ h19, all_real _ _ _ _ _ _ h20, all_real _ _ _ _ _ _ h21⟩

end Cert.Pre_finite.Ops

end
-- ==== Proof.Result.lean ====
/-
  The result array after the kernel's run is the reference's result of the same arguments, whenever every argument entry
  is a real number: block by block, what the body leaves is the reference's value at the block's place in the array.
-/
module

public import proofs.«01_k».proof.Proof.Entry
public import proofs.«01_k».proof.Proof.Finite

@[expose] public section

set_option maxRecDepth 16384

noncomputable section

namespace Cert.KernelIdeal.Result

open Cert.KernelIdeal Cert.KernelIdeal.Gen Cert.KernelIdeal.Entry Idealize.ShloMosaic Idealize.ShloMosaic.TcCoe
open Cert.Rows Cert.Match Cert.ReferenceIdeal.Ops
open Idealize.ShloMosaic.Pipeline (Dat)

variable (m : (ℓ : Loc nD τ sig) → Buf (Elt Ideal) ℓ) (c : Dev nD)

/-- The reference's result of the kernel's own arguments. -/
def target : FVec Ideal S1x64x512 .f32 :=
  Cert.ReferenceIdeal.Read.val_main_v310 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))

/-- The real numbers that the argument arrays hold. -/
structure Holds (E : Emb) (P : Fin 2 → Layer) (sf bf : Fin 512 → ℝ) (V : Fin 512 → Fin 512 → ℝ) : Prop where
  emb : EmbReads (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) E
  layers : Cert.KernelIdeal.Ops.Reads (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) P
  scale : Re1 (m ((c : Thread nD τ).loc main_arg19)) sf
  shift : Re1 (m ((c : Thread nD τ).loc main_arg20)) bf
  proj : Re2 (m ((c : Thread nD τ).loc main_arg21)) V

variable {m c}
variable {E : Emb} {P : Fin 2 → Layer} {sf bf : Fin 512 → ℝ} {V : Fin 512 → Fin 512 → ℝ}

/-- The weight windows' blocks hold the weights of the two layers. -/
theorem layers_re (h : Holds m c E P sf bf V) (t : Fin cfg0.N) :
    Cert.KernelIdeal.Ops.Reads (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) P := by
  rw [blk3, blk4, blk5, blk6, blk7, blk8, blk9, blk10, blk11, blk12, blk13, blk14]
  exact h.layers

/-- What the body leaves at point `t` is the reference's result at the classes of that point. -/
theorem block (h : Holds m c E P sf bf V) (t : Fin cfg0.N) (ht : t.val < 2) (a : Fin 1) (n : Fin 32) (d : Fin 512) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix3 a n d)
      = target m c (ix3 a ⟨32 * t.val + n.val, by omega⟩ d) := by
  have hk := Cert.KernelIdeal.Ops.out_re (sh_re h.emb t) (cls_re h.emb t ht) (stat_re h.emb t) (layers_re h t)
    (sf := sf) (bf := bf) (V := V) (x15 := iblk m c 15 t) (x16 := iblk m c 16 t) (x17 := iblk m c 17 t)
    (fun r k => (blk15 m c t r k).trans (h.scale k)) (fun r k => (blk16 m c t r k).trans (h.shift k))
    (by rw [blk17]; exact h.proj) a n d
  have hr := Cert.ReferenceIdeal.Ops.result_re h.emb h.layers h.scale h.shift h.proj a ⟨32 * t.val + n.val, by omega⟩ d
  refine hk.trans (Eq.trans ?_ hr.symm)
  exact congrArg _ (final_eq P E ⟨t.val, ht⟩ n d sf bf V)

/-- The result array after the run is the reference's result. -/
theorem final (h : Holds m c E P sf bf V) : (dats m 0 c).arrAt 18 cfg0.N = target m c := by
  refine (dats m 0 c).arrAt_eq_of_covers 18 _ (by decide +kernel) fun t hf y => ?_
  have ht : t.val < 2 := lt_of_lt_of_eq t.isLt N_0
  obtain ⟨a, n, d, rfl⟩ : ∃ (a : Fin 1) (n : Fin 32) (d : Fin 512), y = ix3 a n d := ⟨y 0, y 1, y 2, (ix3_eta y).symm⟩
  blk_simp
  rw [after0_18]
  refine Eq.trans ?_ ((block h t ht a n d).trans (congrArg (target m c) ?_))
  · blk_ext! [idx t]
  · blk_ext! [idx t]

/-- A real number read back from an entry that is one. -/
theorem coe_toReal {s : Shape} {x : FVec Ideal s .f32} (h : Cert.Pre_finite.Ops.AllReal x) (i : s.Idx) :
    x i = ((EReal.toReal (x i) : ℝ) : EReal) := by
  obtain ⟨r, e⟩ := h i
  rw [e]; rfl

variable (m)

/-- Under the precondition every device's argument arrays hold real numbers. -/
theorem holds_of_finite [Cert.Pre_finite.Facts] (hp : Cert.Pre_KernelIdeal_finite m) (c : Dev nD) :
    ∃ E P sf bf V, Holds m c E P sf bf V := by
  have h := Cert.Pre_finite.Ops.reals _ _ _ _ _ _ _ _ _ _ _ _ _ _ _ _ _ _ _ _ _ _ ix0 (congrFun (hp c) ix0)
  obtain ⟨h0, h1, h2, h3, h4, h5, h6, h7, h8, h9, h10, h11, h12, h13, h14, h15, h16, h17, h18, h19, h20, h21⟩ := h
  exact ⟨⟨fun a => EReal.toReal ((m ((c.tc : Thread nD τ).loc main_arg0)) (ix1 a)), fun a => EReal.toReal ((m ((c.tc : Thread nD τ).loc main_arg1)) (ix1 a)), fun a b d => EReal.toReal ((m ((c.tc : Thread nD τ).loc main_arg2)) (ix3 a b d)), fun a b d => EReal.toReal ((m ((c.tc : Thread nD τ).loc main_arg3)) (ix3 a b d)), fun a b => EReal.toReal ((m ((c.tc : Thread nD τ).loc main_arg4)) (ix2 a b)), fun a b => EReal.toReal ((m ((c.tc : Thread nD τ).loc main_arg5)) (ix2 a b)), fun a b => EReal.toReal ((m ((c.tc : Thread nD τ).loc main_arg6)) (ix2 a b))⟩, fun l => ⟨fun a => EReal.toReal ((m ((c.tc : Thread nD τ).loc main_arg7)) (ix2 l a)), fun a => EReal.toReal ((m ((c.tc : Thread nD τ).loc main_arg8)) (ix2 l a)), fun a b => EReal.toReal ((m ((c.tc : Thread nD τ).loc main_arg9)) (ix3 l a b)), fun a => EReal.toReal ((m ((c.tc : Thread nD τ).loc main_arg10)) (ix2 l a)), fun a b => EReal.toReal ((m ((c.tc : Thread nD τ).loc main_arg11)) (ix3 l a b)), fun a => EReal.toReal ((m ((c.tc : Thread nD τ).loc main_arg12)) (ix2 l a)), fun a => EReal.toReal ((m ((c.tc : Thread nD τ).loc main_arg13)) (ix2 l a)), fun a => EReal.toReal ((m ((c.tc : Thread nD τ).loc main_arg14)) (ix2 l a)), fun a b => EReal.toReal ((m ((c.tc : Thread nD τ).loc main_arg15)) (ix3 l a b)), fun a => EReal.toReal ((m ((c.tc : Thread nD τ).loc main_arg16)) (ix2 l a)), fun a b => EReal.toReal ((m ((c.tc : Thread nD τ).loc main_arg17)) (ix3 l a b)), fun a => EReal.toReal ((m ((c.tc : Thread nD τ).loc main_arg18)) (ix2 l a))⟩,
    fun a => EReal.toReal ((m ((c.tc : Thread nD τ).loc main_arg19)) (ix1 a)), fun a => EReal.toReal ((m ((c.tc : Thread nD τ).loc main_arg20)) (ix1 a)), fun a b => EReal.toReal ((m ((c.tc : Thread nD τ).loc main_arg21)) (ix2 a b)),
    ⟨fun a => coe_toReal h0 _, fun a => coe_toReal h1 _, fun a b d => coe_toReal h2 _, fun a b d => coe_toReal h3 _, fun a b => coe_toReal h4 _, fun a b => coe_toReal h5 _, fun a b => coe_toReal h6 _⟩,
    ⟨fun a b => coe_toReal h7 _, fun a b => coe_toReal h8 _, fun a b d => coe_toReal h9 _, fun a b => coe_toReal h10 _, fun a b d => coe_toReal h11 _, fun a b => coe_toReal h12 _, fun a b => coe_toReal h13 _, fun a b => coe_toReal h14 _, fun a b d => coe_toReal h15 _, fun a b => coe_toReal h16 _, fun a b d => coe_toReal h17 _, fun a b => coe_toReal h18 _⟩,
    fun a => coe_toReal h19 _, fun a => coe_toReal h20 _, fun a b => coe_toReal h21 _⟩

end Cert.KernelIdeal.Result

end
-- ==== Proof.lean ====
/- The certificate: the frames of the kernel, of its idealization and of the reference, the one named constant, and that
   kernel and reference compute the same array over the extended reals wherever no argument holds an infinity. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Result
public import Idealize.ShloMosaic.Lib.Quiescent
public import Idealize.ShloMosaic.Adequacy
public import Idealize.ShloMosaic.Init

@[expose] public section

noncomputable section

namespace Cert.Proof

open Idealize.ShloMosaic Idealize.SL.Sem

/-- The reference terminates without fault from every memory, and leaves its arguments and semaphores as they were. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- Over the extended reals, from arguments without infinities, the kernel and the reference compute the same array. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => Cert.KernelIdeal.Result.target m c, ?_, ?_⟩
  · refine (θ_run Cert.KernelIdeal.defs _ _).mono (fun r h c => ⟨(h c).1.trans ?_, (h c).2⟩)
      (Cert.KernelIdeal.Value.run_blocks (F := Ideal) m g)
    obtain ⟨E, P, sf, bf, V, hh⟩ := Cert.KernelIdeal.Result.holds_of_finite m hpre c
    exact Cert.KernelIdeal.Result.final hh
  · refine (θ_run Cert.ReferenceIdeal.defs _ _).mono (fun r h c => ⟨(h c).1.trans ?_, (h c).2⟩)
      (Cert.ReferenceIdeal.Value.run (F := Ideal) m' g')
    refine (Cert.ReferenceIdeal.Read.val_main_v310_eq (StableHlo.launchContents m' c)).trans ?_
    obtain ⟨e0, e1, e2, e3, e4, e5, e6, e7, e8, e9, e10, e11, e12, e13, e14, e15, e16, e17, e18, e19, e20, e21⟩ := hagree c
    have e := congrArg (Cert.ReferenceIdeal.Read.val_main_v310 (F := Ideal)) e0
    replace e := congr e e1
    replace e := congr e e2
    replace e := congr e e3
    replace e := congr e e4
    replace e := congr e e5
    replace e := congr e e6
    replace e := congr e e7
    replace e := congr e e8
    replace e := congr e e9
    replace e := congr e e10
    replace e := congr e e11
    replace e := congr e e12
    replace e := congr e e13
    replace e := congr e e14
    replace e := congr e e15
    replace e := congr e e16
    replace e := congr e e17
    replace e := congr e e18
    replace e := congr e e19
    replace e := congr e e20
    replace e := congr e e21
    exact e

/-- Everything claimed. -/
theorem claim : Cert.Claim :=
  ⟨Cert.Kernel.Gen.facts, Cert.KernelIdeal.Gen.facts, Cert.ReferenceIdeal.Gen.facts, Cert.Pre_finite.Gen.facts,
    fun m g _ => Cert.Kernel.Gen.frame m g, fun m g _ => Cert.KernelIdeal.Gen.frame m g,
    fun m g _ => Cert.KernelIdeal.Gen.frame m g, frame_reference, fun m g _ => frame_reference m g trivial,
    IdealRules.named_const.statement Cert.KernelIdeal.κ "mask" .f32 0xCE6E6B28#32 ⊥ rfl, algebraic⟩

end Cert.Proof

end
